-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v37) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v2)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v2) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v24) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4))

def Claim : Prop :=
  ∃ (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hFfnFirst : Cert.FfnFirst.Facts) (hFfnFirstIdeal : Cert.FfnFirstIdeal.Facts) (hFfnFirstReferenceIdeal : Cert.FfnFirstReferenceIdeal.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ preserves_FfnFirst_FfnFirstIdeal
    ∧ algebraic_FfnFirstIdeal_FfnFirstReferenceIdeal (hFfnFirstIdeal := hFfnFirstIdeal) (hFfnFirstReferenceIdeal := hFfnFirstReferenceIdeal)
-- ==== Ffn.lean ====
abbrev S2x8192x1024 : Shape := ⟨3, ![2, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x4096 : Shape := ⟨2, ![1024, 4096]⟩
abbrev S4096x1024 : Shape := ⟨2, ![4096, 1024]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S2x512x1024 : Shape := ⟨3, ![2, 512, 1024]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S4096x1024, .bf16⟩
  | .local _ .vmem, ⟨8, _⟩ => ⟨S2x128x4096, .f32⟩
  | .local _ .vmem, ⟨9, _⟩ => ⟨S2x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnReferenceIdeal.lean ====
abbrev S2x8192x1024 : Shape := ⟨3, ![2, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x4096, .f32⟩
  | .hbm, ⟨24, _⟩ => ⟨S1024x4096, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S1x4096x1024, .f32⟩
  | .hbm, ⟨31, _⟩ => ⟨S4096x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x1024, .f32⟩
  | .hbm, ⟨46, _⟩ => ⟨S2x8192x1024, .f32⟩
  | .hbm, ⟨47, _⟩ => ⟨S1x1x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Mix.lean ====
abbrev S2x8192x1024 : Shape := ⟨3, ![2, 8192, 1024]⟩
abbrev S2x1024 : Shape := ⟨2, ![2, 1024]⟩
abbrev S2x1024x3072 : Shape := ⟨3, ![2, 1024, 3072]⟩
abbrev S2x31x512 : Shape := ⟨3, ![2, 31, 512]⟩
abbrev S2x512 : Shape := ⟨2, ![2, 512]⟩
abbrev S2x1024x1024 : Shape := ⟨3, ![2, 1024, 1024]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S8192x256 : Shape := ⟨2, ![8192, 256]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S256x4 : Shape := ⟨2, ![256, 4]⟩
abbrev S256x4x128 : Shape := ⟨3, ![256, 4, 128]⟩
abbrev S256x512 : Shape := ⟨2, ![256, 512]⟩
abbrev S4x1x128 : Shape := ⟨3, ![4, 1, 128]⟩
abbrev S16384x1024 : Shape := ⟨2, ![16384, 1024]⟩
abbrev S1024x1024 : Shape := ⟨2, ![1024, 1024]⟩
abbrev S1x31x512 : Shape := ⟨3, ![1, 31, 512]⟩
abbrev S1024x256 : Shape := ⟨2, ![1024, 256]⟩
abbrev S1024x3072 : Shape := ⟨2, ![1024, 3072]⟩
abbrev S2x1088x512 : Shape := ⟨3, ![2, 1088, 512]⟩
abbrev S1024x512 : Shape := ⟨2, ![1024, 512]⟩
abbrev S4x128x128 : Shape := ⟨3, ![4, 128, 128]⟩
abbrev S2x256x3072 : Shape := ⟨3, ![2, 256, 3072]⟩
abbrev S2 : Shape := ⟨1, ![2]⟩
abbrev S1 : Shape := ⟨1, ![1]⟩
abbrev S1x256x3072 : Shape := ⟨3, ![1, 256, 3072]⟩
abbrev S256x3072 : Shape := ⟨2, ![256, 3072]⟩
abbrev S2x512x1024 : Shape := ⟨3, ![2, 512, 1024]⟩
abbrev S1x512x1024 : Shape := ⟨3, ![1, 512, 1024]⟩
abbrev S512x1024 : Shape := ⟨2, ![512, 1024]⟩
abbrev S2x40x512 : Shape := ⟨3, ![2, 40, 512]⟩
abbrev S1024 : Shape := ⟨1, ![1024]⟩
abbrev S1024x1 : Shape := ⟨2, ![1024, 1]⟩
abbrev S1x1024 : Shape := ⟨2, ![1, 1024]⟩
abbrev S128x1024 : Shape := ⟨2, ![128, 1024]⟩
abbrev S128x512 : Shape := ⟨2, ![128, 512]⟩
abbrev S1x128x512 : Shape := ⟨3, ![1, 128, 512]⟩
abbrev S1024x2048 : Shape := ⟨2, ![1024, 2048]⟩
abbrev S1x8x128 : Shape := ⟨3, ![1, 8, 128]⟩
abbrev S8x128 : Shape := ⟨2, ![8, 128]⟩
abbrev S1x1x128 : Shape := ⟨3, ![1, 1, 128]⟩
abbrev S1x128 : Shape := ⟨2, ![1, 128]⟩
abbrev S1x64x128 : Shape := ⟨3, ![1, 64, 128]⟩
abbrev S64x128 : Shape := ⟨2, ![64, 128]⟩
abbrev S72x128 : Shape := ⟨2, ![72, 128]⟩
abbrev S1x512 : Shape := ⟨2, ![1, 512]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 121
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x3072, .f32⟩
  | .hbm, ⟨3, _⟩ => ⟨S2x31x512, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x512, .f32⟩
  | .hbm, ⟨8, _⟩ => ⟨S2x1024x1024, .f32⟩
  | .hbm, ⟨9, _⟩ => ⟨S8192, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S8192x1, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x128, .f32⟩
  | .hbm, ⟨32, _⟩ => ⟨S8192x64, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x256, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S8192x256, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S256x1, .f32⟩
  | .hbm, ⟨60, _⟩ => ⟨S1x256, .f32⟩
  | .hbm, ⟨61, _⟩ => ⟨S256x256, .f32⟩
  | .hbm, ⟨62, _⟩ => ⟨S256x256, .f32⟩
  | .hbm, ⟨63, _⟩ => ⟨S256x256, .f32⟩
  | .hbm, ⟨64, _⟩ => ⟨S256x1, .f32⟩
  | .hbm, ⟨65, _⟩ => ⟨S1x256, .f32⟩
  | .hbm, ⟨66, _⟩ => ⟨S256x256, .f32⟩
  | .hbm, ⟨67, _⟩ => ⟨S256x256, .f32⟩
  | .hbm, ⟨68, _⟩ => ⟨S256x256, .i1⟩
  | .hbm, ⟨69, _⟩ => ⟨S1x256, .f32⟩
  | .hbm, ⟨70, _⟩ => ⟨S256x1, .f32⟩
  | .hbm, ⟨71, _⟩ => ⟨S256x256, .f32⟩
  | .hbm, ⟨72, _⟩ => ⟨S256x256, .f32⟩
  | .hbm, ⟨73, _⟩ => ⟨S256x256, .i1⟩
  | .hbm, ⟨74, _⟩ => ⟨S256x256, .f32⟩
  | .hbm, ⟨75, _⟩ => ⟨S256x256, .f32⟩
  | .hbm, ⟨76, _⟩ => ⟨S256x256, .i1⟩
  | .hbm, ⟨77, _⟩ => ⟨S1x256x256, .i1⟩
  | .hbm, ⟨78, _⟩ => ⟨S4x1x1, .f32⟩
  | .hbm, ⟨79, _⟩ => ⟨S1x256x256, .f32⟩
  | .hbm, ⟨80, _⟩ => ⟨S4x256x256, .f32⟩
  | .hbm, ⟨81, _⟩ => ⟨S4x256x256, .f32⟩
  | .hbm, ⟨82, _⟩ => ⟨S4x256x256, .f32⟩
  | .hbm, ⟨83, _⟩ => ⟨S4x256x256, .f32⟩
  | .hbm, ⟨84, _⟩ => ⟨S_, .f32⟩
  | .hbm, ⟨85, _⟩ => ⟨S_, .f32⟩
  | .hbm, ⟨86, _⟩ => ⟨S4x256x256, .i1⟩
  | .hbm, ⟨87, _⟩ => ⟨S4x256x256, .f32⟩
  | .hbm, ⟨88, _⟩ => ⟨S4x256x256, .f32⟩
  | .hbm, ⟨89, _⟩ => ⟨S4x1, .f32⟩
  | .hbm, ⟨90, _⟩ => ⟨S_, .f32⟩
  | .hbm, ⟨91, _⟩ => ⟨S256, .f32⟩
  | .hbm, ⟨92, _⟩ => ⟨S256, .f32⟩
  | .hbm, ⟨93, _⟩ => ⟨S1x256, .f32⟩
  | .hbm, ⟨94, _⟩ => ⟨S4x256, .f32⟩
  | .hbm, ⟨95, _⟩ => ⟨S4x256, .f32⟩
  | .hbm, ⟨96, _⟩ => ⟨S4x256, .f32⟩
  | .hbm, ⟨97, _⟩ => ⟨S4x256, .f32⟩
  | .hbm, ⟨98, _⟩ => ⟨S4x1, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S1x256, .f32⟩
  | .hbm, ⟨103, _⟩ => ⟨S4x256, .f32⟩
  | .hbm, ⟨104, _⟩ => ⟨S4x256, .f32⟩
  | .hbm, ⟨105, _⟩ => ⟨S4x256, .f32⟩
  | .hbm, ⟨106, _⟩ => ⟨S4x256, .f32⟩
  | .hbm, ⟨107, _⟩ => ⟨S256x4, .f32⟩
  | .hbm, ⟨108, _⟩ => ⟨S256x4x128, .f32⟩
  | .hbm, ⟨109, _⟩ => ⟨S256x512, .f32⟩
  | .hbm, ⟨110, _⟩ => ⟨S256x4, .f32⟩
  | .hbm, ⟨111, _⟩ => ⟨S256x4x128, .f32⟩
  | .hbm, ⟨112, _⟩ => ⟨S256x512, .f32⟩
  | .hbm, ⟨113, _⟩ => ⟨S_, .f32⟩
  | .hbm, ⟨114, _⟩ => ⟨S4, .f32⟩
  | .hbm, ⟨115, _⟩ => ⟨S4, .f32⟩
  | .hbm, ⟨116, _⟩ => ⟨S4, .f32⟩
  | .hbm, ⟨117, _⟩ => ⟨S4x1x1, .f32⟩
  | .hbm, ⟨118, _⟩ => ⟨S4x1x128, .f32⟩
  | .hbm, ⟨119, _⟩ => ⟨S16384x1024, .f32⟩
  | .hbm, ⟨120, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1x31x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S2x512, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S4x256x256, .f32⟩
  | .local _ .vmem, ⟨13, _⟩ => ⟨S256x512, .f32⟩
  | .local _ .vmem, ⟨14, _⟩ => ⟨S256x512, .f32⟩
  | .local _ .vmem, ⟨15, _⟩ => ⟨S4x1x128, .f32⟩
  | .local _ .vmem, ⟨16, _⟩ => ⟨S1024x1024, .f32⟩
  | .local _ .vmem, ⟨17, _⟩ => ⟨S1024x1024, .f32⟩
  | .local _ .vmem, ⟨18, _⟩ => ⟨S1024x3072, .bf16⟩
  | .local _ .vmem, ⟨19, _⟩ => ⟨S1024x1024, .bf16⟩
  | .local _ .vmem, ⟨20, _⟩ => ⟨S2x1088x512, .f32⟩
  | .local _ .vmem, ⟨21, _⟩ => ⟨S1024x512, .f32⟩
  | .local _ .vmem, ⟨22, _⟩ => ⟨S1024x1024, .bf16⟩
  | .local _ .vmem, ⟨23, _⟩ => ⟨S4x128x128, .f32⟩
  | .local _ .vmem, ⟨24, _⟩ => ⟨S2x256x3072, .f32⟩
  | .local _ .vmem, ⟨25, _⟩ => ⟨S2x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scoped0 : Ref sig .tc := ⟨.vmem, 24, rfl⟩
abbrev cc0_scoped2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixReferenceIdeal.lean ====
abbrev S2x8192x1024 : Shape := ⟨3, ![2, 8192, 1024]⟩
abbrev S2x1024 : Shape := ⟨2, ![2, 1024]⟩
abbrev S2x1024x3072 : Shape := ⟨3, ![2, 1024, 3072]⟩
abbrev S2x31x512 : Shape := ⟨3, ![2, 31, 512]⟩
abbrev S2x512 : Shape := ⟨2, ![2, 512]⟩
abbrev S2x1024x1024 : Shape := ⟨3, ![2, 1024, 1024]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x1024 : Shape := ⟨2, ![1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S2x8192x512 : Shape := ⟨3, ![2, 8192, 512]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S2x8222x512 : Shape := ⟨3, ![2, 8222, 512]⟩
abbrev S1x1x512 : Shape := ⟨3, ![1, 1, 512]⟩
abbrev S2x8192x4x128 : Shape := ⟨4, ![2, 8192, 4, 128]⟩
abbrev S2x8192x4x64 : Shape := ⟨4, ![2, 8192, 4, 64]⟩
abbrev S1x8192x1x64 : Shape := ⟨4, ![1, 8192, 1, 64]⟩
abbrev S4 : Shape := ⟨1, ![4]⟩
abbrev S1x8192 : Shape := ⟨2, ![1, 8192]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S2x4x8192x8192 : Shape := ⟨4, ![2, 4, 8192, 8192]⟩
abbrev S1x4x8192x8192 : Shape := ⟨4, ![1, 4, 8192, 8192]⟩
abbrev S2x4x128x8192 : Shape := ⟨4, ![2, 4, 128, 8192]⟩
abbrev S4x128 : Shape := ⟨2, ![4, 128]⟩
abbrev S2x8192x4 : Shape := ⟨3, ![2, 8192, 4]⟩
abbrev S2x8192x4x1 : Shape := ⟨4, ![2, 8192, 4, 1]⟩
abbrev S1x1x4x128 : Shape := ⟨4, ![1, 1, 4, 128]⟩
abbrev S1x1024x1024 : Shape := ⟨3, ![1, 1024, 1024]⟩
abbrev S1024x1024 : Shape := ⟨2, ![1024, 1024]⟩
abbrev S16384x1024 : Shape := ⟨2, ![16384, 1024]⟩

abbrev nBuf : Space → Nat
  | .hbm => 531
  | .vmem => 0
  | .smem => 0
  | _ => 0

abbrev hbmTy0_0 (i : Nat) : BufTy := match i % 128 with
  | 0 => ⟨S2x8192x1024, .f32⟩
  | 1 => ⟨S2x1024, .f32⟩
  | 2 => ⟨S2x1024x3072, .f32⟩
  | 3 => ⟨S2x31x512, .f32⟩
  | 4 => ⟨S2x512, .f32⟩
  | 5 => ⟨S2x512, .f32⟩
  | 6 => ⟨S2x512, .f32⟩
  | 7 => ⟨S2x512, .f32⟩
  | 8 => ⟨S2x1024x1024, .f32⟩
  | 9 => ⟨S8192, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S8192x1, .f32⟩
  | 25 => ⟨S1x64, .f32⟩
  | 26 => ⟨S8192x64, .f32⟩
  | 27 => ⟨S8192x64, .f32⟩
  | 28 => ⟨S8192x64, .f32⟩
  | 29 => ⟨S8192x64, .f32⟩
  | 30 => ⟨S8192x64, .f32⟩
  | 31 => ⟨S1x1024, .f32⟩
  | 32 => ⟨S1024, .f32⟩
  | 33 => ⟨S2x8192x1024, .f32⟩
  | 34 => ⟨S_, .f32⟩
  | 35 => ⟨S2x8192, .f32⟩
  | 36 => ⟨S2x8192x1, .f32⟩
  | 37 => ⟨S_, .f32⟩
  | 38 => ⟨S2x8192x1, .f32⟩
  | 39 => ⟨S2x8192x1, .f32⟩
  | 40 => ⟨S_, .f32⟩
  | 41 => ⟨S2x8192x1, .f32⟩
  | 42 => ⟨S2x8192x1, .f32⟩
  | 43 => ⟨S2x8192x1, .f32⟩
  | 44 => ⟨S2x8192x1024, .f32⟩
  | 45 => ⟨S2x8192x1024, .f32⟩
  | 46 => ⟨S1x1x1024, .f32⟩
  | 47 => ⟨S2x8192x1024, .f32⟩
  | 48 => ⟨S2x8192x1024, .f32⟩
  | 49 => ⟨S1x1024x3072, .f32⟩
  | 50 => ⟨S1024x3072, .f32⟩
  | 51 => ⟨S2x8192x3072, .f32⟩
  | 52 => ⟨S2x8192x512, .f32⟩
  | 53 => ⟨S2x8192x512, .f32⟩
  | 54 => ⟨S2x8192x512, .f32⟩
  | 55 => ⟨S2x8192x512, .f32⟩
  | 56 => ⟨S2x8192x1024, .f32⟩
  | 57 => ⟨S1x31x512, .f32⟩
  | 58 => ⟨S31x512, .f32⟩
  | 59 => ⟨S1x512, .f32⟩
  | 60 => ⟨S512, .f32⟩
  | 61 => ⟨S1x512, .f32⟩
  | 62 => ⟨S512, .f32⟩
  | 63 => ⟨S1x512, .f32⟩
  | 64 => ⟨S512, .f32⟩
  | 65 => ⟨S2x8192x512, .f32⟩
  | 66 => ⟨S2x8192x512, .f32⟩
  | 67 => ⟨S2x8192x512, .f32⟩
  | 68 => ⟨S2x8192x512, .f32⟩
  | 69 => ⟨S_, .f32⟩
  | 70 => ⟨S2x8192x512, .f32⟩
  | 71 => ⟨S2x8192x512, .f32⟩
  | 72 => ⟨S_, .f32⟩
  | 73 => ⟨S2x8192x512, .f32⟩
  | 74 => ⟨S2x8192x512, .f32⟩
  | 75 => ⟨S2x8192x512, .f32⟩
  | 76 => ⟨S_, .i32⟩
  | 77 => ⟨S_, .f32⟩
  | 78 => ⟨S2x8222x512, .f32⟩
  | 79 => ⟨S2x8192x512, .f32⟩
  | 80 => ⟨S1x512, .f32⟩
  | 81 => ⟨S512, .f32⟩
  | 82 => ⟨S1x1x512, .f32⟩
  | 83 => ⟨S2x8192x512, .f32⟩
  | 84 => ⟨S2x8192x512, .f32⟩
  | 85 => ⟨S_, .f32⟩
  | 86 => ⟨S2x8192x512, .f32⟩
  | 87 => ⟨S2x8192x512, .f32⟩
  | 88 => ⟨S2x8192x512, .f32⟩
  | 89 => ⟨S1x512, .f32⟩
  | 90 => ⟨S512, .f32⟩
  | 91 => ⟨S1x1x512, .f32⟩
  | 92 => ⟨S2x8192x512, .f32⟩
  | 93 => ⟨S2x8192x512, .f32⟩
  | 94 => ⟨S2x8192x512, .f32⟩
  | 95 => ⟨S2x8192x512, .f32⟩
  | 96 => ⟨S1x512, .f32⟩
  | 97 => ⟨S512, .f32⟩
  | 98 => ⟨S1x1x512, .f32⟩
  | 99 => ⟨S2x8192x512, .f32⟩
  | 100 => ⟨S2x8192x512, .f32⟩
  | 101 => ⟨S2x8192x512, .f32⟩
  | 102 => ⟨S2x8192x512, .f32⟩
  | 103 => ⟨S1x512, .f32⟩
  | 104 => ⟨S512, .f32⟩
  | 105 => ⟨S1x1x512, .f32⟩
  | 106 => ⟨S2x8192x512, .f32⟩
  | 107 => ⟨S2x8192x512, .f32⟩
  | 108 => ⟨S2x8192x512, .f32⟩
  | 109 => ⟨S2x8192x512, .f32⟩
  | 110 => ⟨S1x512, .f32⟩
  | 111 => ⟨S512, .f32⟩
  | 112 => ⟨S1x1x512, .f32⟩
  | 113 => ⟨S2x8192x512, .f32⟩
  | 114 => ⟨S2x8192x512, .f32⟩
  | 115 => ⟨S2x8192x512, .f32⟩
  | 116 => ⟨S2x8192x512, .f32⟩
  | 117 => ⟨S1x512, .f32⟩
  | 118 => ⟨S512, .f32⟩
  | 119 => ⟨S1x1x512, .f32⟩
  | 120 => ⟨S2x8192x512, .f32⟩
  | 121 => ⟨S2x8192x512, .f32⟩
  | 122 => ⟨S2x8192x512, .f32⟩
  | 123 => ⟨S2x8192x512, .f32⟩
  | 124 => ⟨S1x512, .f32⟩
  | 125 => ⟨S512, .f32⟩
  | 126 => ⟨S1x1x512, .f32⟩
  | 127 => ⟨S2x8192x512, .f32⟩
  | _ => ⟨S2x8192x1024, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S1x512, .f32⟩
  | 4 => ⟨S512, .f32⟩
  | 5 => ⟨S1x1x512, .f32⟩
  | 6 => ⟨S2x8192x512, .f32⟩
  | 7 => ⟨S2x8192x512, .f32⟩
  | 8 => ⟨S2x8192x512, .f32⟩
  | 9 => ⟨S2x8192x512, .f32⟩
  | 10 => ⟨S1x512, .f32⟩
  | 11 => ⟨S512, .f32⟩
  | 12 => ⟨S1x1x512, .f32⟩
  | 13 => ⟨S2x8192x512, .f32⟩
  | 14 => ⟨S2x8192x512, .f32⟩
  | 15 => ⟨S2x8192x512, .f32⟩
  | 16 => ⟨S2x8192x512, .f32⟩
  | 17 => ⟨S1x512, .f32⟩
  | 18 => ⟨S512, .f32⟩
  | 19 => ⟨S1x1x512, .f32⟩
  | 20 => ⟨S2x8192x512, .f32⟩
  | 21 => ⟨S2x8192x512, .f32⟩
  | 22 => ⟨S2x8192x512, .f32⟩
  | 23 => ⟨S2x8192x512, .f32⟩
  | 24 => ⟨S1x512, .f32⟩
  | 25 => ⟨S512, .f32⟩
  | 26 => ⟨S1x1x512, .f32⟩
  | 27 => ⟨S2x8192x512, .f32⟩
  | 28 => ⟨S2x8192x512, .f32⟩
  | 29 => ⟨S2x8192x512, .f32⟩
  | 30 => ⟨S2x8192x512, .f32⟩
  | 31 => ⟨S1x512, .f32⟩
  | 32 => ⟨S512, .f32⟩
  | 33 => ⟨S1x1x512, .f32⟩
  | 34 => ⟨S2x8192x512, .f32⟩
  | 35 => ⟨S2x8192x512, .f32⟩
  | 36 => ⟨S2x8192x512, .f32⟩
  | 37 => ⟨S2x8192x512, .f32⟩
  | 38 => ⟨S1x512, .f32⟩
  | 39 => ⟨S512, .f32⟩
  | 40 => ⟨S1x1x512, .f32⟩
  | 41 => ⟨S2x8192x512, .f32⟩
  | 42 => ⟨S2x8192x512, .f32⟩
  | 43 => ⟨S2x8192x512, .f32⟩
  | 44 => ⟨S2x8192x512, .f32⟩
  | 45 => ⟨S1x512, .f32⟩
  | 46 => ⟨S512, .f32⟩
  | 47 => ⟨S1x1x512, .f32⟩
  | 48 => ⟨S2x8192x512, .f32⟩
  | 49 => ⟨S2x8192x512, .f32⟩
  | 50 => ⟨S2x8192x512, .f32⟩
  | 51 => ⟨S2x8192x512, .f32⟩
  | 52 => ⟨S1x512, .f32⟩
  | 53 => ⟨S512, .f32⟩
  | 54 => ⟨S1x1x512, .f32⟩
  | 55 => ⟨S2x8192x512, .f32⟩
  | 56 => ⟨S2x8192x512, .f32⟩
  | 57 => ⟨S2x8192x512, .f32⟩
  | 58 => ⟨S2x8192x512, .f32⟩
  | 59 => ⟨S1x512, .f32⟩
  | 60 => ⟨S512, .f32⟩
  | 61 => ⟨S1x1x512, .f32⟩
  | 62 => ⟨S2x8192x512, .f32⟩
  | 63 => ⟨S2x8192x512, .f32⟩
  | 64 => ⟨S2x8192x512, .f32⟩
  | 65 => ⟨S2x8192x512, .f32⟩
  | 66 => ⟨S1x512, .f32⟩
  | 67 => ⟨S512, .f32⟩
  | 68 => ⟨S1x1x512, .f32⟩
  | 69 => ⟨S2x8192x512, .f32⟩
  | 70 => ⟨S2x8192x512, .f32⟩
  | 71 => ⟨S2x8192x512, .f32⟩
  | 72 => ⟨S2x8192x512, .f32⟩
  | 73 => ⟨S1x512, .f32⟩
  | 74 => ⟨S512, .f32⟩
  | 75 => ⟨S1x1x512, .f32⟩
  | 76 => ⟨S2x8192x512, .f32⟩
  | 77 => ⟨S2x8192x512, .f32⟩
  | 78 => ⟨S2x8192x512, .f32⟩
  | 79 => ⟨S2x8192x512, .f32⟩
  | 80 => ⟨S1x512, .f32⟩
  | 81 => ⟨S512, .f32⟩
  | 82 => ⟨S1x1x512, .f32⟩
  | 83 => ⟨S2x8192x512, .f32⟩
  | 84 => ⟨S2x8192x512, .f32⟩
  | 85 => ⟨S2x8192x512, .f32⟩
  | 86 => ⟨S2x8192x512, .f32⟩
  | 87 => ⟨S1x512, .f32⟩
  | 88 => ⟨S512, .f32⟩
  | 89 => ⟨S1x1x512, .f32⟩
  | 90 => ⟨S2x8192x512, .f32⟩
  | 91 => ⟨S2x8192x512, .f32⟩
  | 92 => ⟨S2x8192x512, .f32⟩
  | 93 => ⟨S2x8192x512, .f32⟩
  | 94 => ⟨S1x512, .f32⟩
  | 95 => ⟨S512, .f32⟩
  | 96 => ⟨S1x1x512, .f32⟩
  | 97 => ⟨S2x8192x512, .f32⟩
  | 98 => ⟨S2x8192x512, .f32⟩
  | 99 => ⟨S2x8192x512, .f32⟩
  | 100 => ⟨S2x8192x512, .f32⟩
  | 101 => ⟨S1x512, .f32⟩
  | 102 => ⟨S512, .f32⟩
  | 103 => ⟨S1x1x512, .f32⟩
  | 104 => ⟨S2x8192x512, .f32⟩
  | 105 => ⟨S2x8192x512, .f32⟩
  | 106 => ⟨S2x8192x512, .f32⟩
  | 107 => ⟨S2x8192x512, .f32⟩
  | 108 => ⟨S1x512, .f32⟩
  | 109 => ⟨S512, .f32⟩
  | 110 => ⟨S1x1x512, .f32⟩
  | 111 => ⟨S2x8192x512, .f32⟩
  | 112 => ⟨S2x8192x512, .f32⟩
  | 113 => ⟨S2x8192x512, .f32⟩
  | 114 => ⟨S2x8192x512, .f32⟩
  | 115 => ⟨S1x512, .f32⟩
  | 116 => ⟨S512, .f32⟩
  | 117 => ⟨S1x1x512, .f32⟩
  | 118 => ⟨S2x8192x512, .f32⟩
  | 119 => ⟨S2x8192x512, .f32⟩
  | 120 => ⟨S2x8192x512, .f32⟩
  | 121 => ⟨S2x8192x512, .f32⟩
  | 122 => ⟨S1x512, .f32⟩
  | 123 => ⟨S512, .f32⟩
  | 124 => ⟨S1x1x512, .f32⟩
  | 125 => ⟨S2x8192x512, .f32⟩
  | 126 => ⟨S2x8192x512, .f32⟩
  | 127 => ⟨S2x8192x512, .f32⟩
  | _ => ⟨S2x8192x1024, .f32⟩

abbrev hbmTy0_2 (i : Nat) : BufTy := match i % 128 with
  | 0 => ⟨S2x8192x512, .f32⟩
  | 1 => ⟨S1x512, .f32⟩
  | 2 => ⟨S512, .f32⟩
  | 3 => ⟨S1x1x512, .f32⟩
  | 4 => ⟨S2x8192x512, .f32⟩
  | 5 => ⟨S2x8192x512, .f32⟩
  | 6 => ⟨S2x8192x512, .f32⟩
  | 7 => ⟨S2x8192x512, .f32⟩
  | 8 => ⟨S1x512, .f32⟩
  | 9 => ⟨S512, .f32⟩
  | 10 => ⟨S1x1x512, .f32⟩
  | 11 => ⟨S2x8192x512, .f32⟩
  | 12 => ⟨S2x8192x512, .f32⟩
  | 13 => ⟨S2x8192x512, .f32⟩
  | 14 => ⟨S2x8192x512, .f32⟩
  | 15 => ⟨S1x512, .f32⟩
  | 16 => ⟨S512, .f32⟩
  | 17 => ⟨S1x1x512, .f32⟩
  | 18 => ⟨S2x8192x512, .f32⟩
  | 19 => ⟨S2x8192x512, .f32⟩
  | 20 => ⟨S2x8192x512, .f32⟩
  | 21 => ⟨S2x8192x512, .f32⟩
  | 22 => ⟨S1x512, .f32⟩
  | 23 => ⟨S512, .f32⟩
  | 24 => ⟨S1x1x512, .f32⟩
  | 25 => ⟨S2x8192x512, .f32⟩
  | 26 => ⟨S2x8192x512, .f32⟩
  | 27 => ⟨S2x8192x512, .f32⟩
  | 28 => ⟨S2x8192x512, .f32⟩
  | 29 => ⟨S1x512, .f32⟩
  | 30 => ⟨S512, .f32⟩
  | 31 => ⟨S1x1x512, .f32⟩
  | 32 => ⟨S2x8192x512, .f32⟩
  | 33 => ⟨S2x8192x512, .f32⟩
  | 34 => ⟨S2x8192x512, .f32⟩
  | 35 => ⟨S2x8192x512, .f32⟩
  | 36 => ⟨S1x512, .f32⟩
  | 37 => ⟨S512, .f32⟩
  | 38 => ⟨S1x1x512, .f32⟩
  | 39 => ⟨S2x8192x512, .f32⟩
  | 40 => ⟨S2x8192x512, .f32⟩
  | 41 => ⟨S2x8192x512, .f32⟩
  | 42 => ⟨S1x1x512, .f32⟩
  | 43 => ⟨S2x8192x512, .f32⟩
  | 44 => ⟨S2x8192x512, .f32⟩
  | 45 => ⟨S_, .f32⟩
  | 46 => ⟨S2x8192, .f32⟩
  | 47 => ⟨S2x8192x1, .f32⟩
  | 48 => ⟨S_, .f32⟩
  | 49 => ⟨S2x8192x1, .f32⟩
  | 50 => ⟨S2x8192x1, .f32⟩
  | 51 => ⟨S2x8192x512, .f32⟩
  | 52 => ⟨S2x8192x512, .f32⟩
  | 53 => ⟨S2x8192x512, .f32⟩
  | 54 => ⟨S_, .f32⟩
  | 55 => ⟨S2x8192, .f32⟩
  | 56 => ⟨S2x8192x1, .f32⟩
  | 57 => ⟨S_, .f32⟩
  | 58 => ⟨S2x8192x1, .f32⟩
  | 59 => ⟨S2x8192x1, .f32⟩
  | 60 => ⟨S2x8192x512, .f32⟩
  | 61 => ⟨S2x8192x512, .f32⟩
  | 62 => ⟨S_, .f32⟩
  | 63 => ⟨S2x8192x1, .f32⟩
  | 64 => ⟨S2x8192x1, .f32⟩
  | 65 => ⟨S2x8192x1, .f32⟩
  | 66 => ⟨S2x8192x512, .f32⟩
  | 67 => ⟨S2x8192x512, .f32⟩
  | 68 => ⟨S1x1x512, .f32⟩
  | 69 => ⟨S2x8192x512, .f32⟩
  | 70 => ⟨S2x8192x512, .f32⟩
  | 71 => ⟨S1x1x512, .f32⟩
  | 72 => ⟨S2x8192x512, .f32⟩
  | 73 => ⟨S2x8192x512, .f32⟩
  | 74 => ⟨S2x8192x512, .f32⟩
  | 75 => ⟨S2x8192x512, .f32⟩
  | 76 => ⟨S_, .f32⟩
  | 77 => ⟨S2x8192x512, .f32⟩
  | 78 => ⟨S2x8192x512, .f32⟩
  | 79 => ⟨S_, .f32⟩
  | 80 => ⟨S2x8192x512, .f32⟩
  | 81 => ⟨S2x8192x512, .f32⟩
  | 82 => ⟨S2x8192x512, .f32⟩
  | 83 => ⟨S1x512, .f32⟩
  | 84 => ⟨S512, .f32⟩
  | 85 => ⟨S2x8192x4x128, .f32⟩
  | 86 => ⟨S2x8192x4x64, .f32⟩
  | 87 => ⟨S2x8192x4x64, .f32⟩
  | 88 => ⟨S1x8192x1x64, .f32⟩
  | 89 => ⟨S1x8192x1x64, .f32⟩
  | 90 => ⟨S2x8192x4x64, .f32⟩
  | 91 => ⟨S2x8192x4x64, .f32⟩
  | 92 => ⟨S2x8192x4x64, .f32⟩
  | 93 => ⟨S2x8192x4x64, .f32⟩
  | 94 => ⟨S2x8192x4x64, .f32⟩
  | 95 => ⟨S2x8192x4x64, .f32⟩
  | 96 => ⟨S2x8192x4x64, .f32⟩
  | 97 => ⟨S2x8192x4x64, .f32⟩
  | 98 => ⟨S2x8192x4x64, .f32⟩
  | 99 => ⟨S2x8192x4x64, .f32⟩
  | 100 => ⟨S2x8192x4x128, .f32⟩
  | 101 => ⟨S2x8192x4x128, .f32⟩
  | 102 => ⟨S2x8192x4x64, .f32⟩
  | 103 => ⟨S2x8192x4x64, .f32⟩
  | 104 => ⟨S1x8192x1x64, .f32⟩
  | 105 => ⟨S1x8192x1x64, .f32⟩
  | 106 => ⟨S2x8192x4x64, .f32⟩
  | 107 => ⟨S2x8192x4x64, .f32⟩
  | 108 => ⟨S2x8192x4x64, .f32⟩
  | 109 => ⟨S2x8192x4x64, .f32⟩
  | 110 => ⟨S2x8192x4x64, .f32⟩
  | 111 => ⟨S2x8192x4x64, .f32⟩
  | 112 => ⟨S2x8192x4x64, .f32⟩
  | 113 => ⟨S2x8192x4x64, .f32⟩
  | 114 => ⟨S2x8192x4x64, .f32⟩
  | 115 => ⟨S2x8192x4x64, .f32⟩
  | 116 => ⟨S2x8192x4x128, .f32⟩
  | 117 => ⟨S_, .f32⟩
  | 118 => ⟨S2x8192x4x128, .f32⟩
  | 119 => ⟨S2x8192x4x128, .f32⟩
  | 120 => ⟨S2x8192x4x128, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S2x8192x1024, .f32⟩

abbrev hbmTy0_3 (i : Nat) : BufTy := match i % 128 with
  | 0 => ⟨S4, .f32⟩
  | 1 => ⟨S_, .f32⟩
  | 2 => ⟨S4, .f32⟩
  | 3 => ⟨S4, .f32⟩
  | 4 => ⟨S4, .f32⟩
  | 5 => ⟨S8192, .i32⟩
  | 6 => ⟨S8192x1, .i32⟩
  | 7 => ⟨S1x8192, .i32⟩
  | 8 => ⟨S_, .i32⟩
  | 9 => ⟨S_, .i32⟩
  | 10 => ⟨S8192x1, .i32⟩
  | 11 => ⟨S8192x1, .i32⟩
  | 12 => ⟨S8192x1, .i32⟩
  | 13 => ⟨S_, .i32⟩
  | 14 => ⟨S8192x1, .i32⟩
  | 15 => ⟨S8192x1, .i1⟩
  | 16 => ⟨S8192x1, .i32⟩
  | 17 => ⟨S8192x1, .i32⟩
  | 18 => ⟨S_, .i32⟩
  | 19 => ⟨S8192x1, .i32⟩
  | 20 => ⟨S8192x1, .i1⟩
  | 21 => ⟨S8192x1, .i1⟩
  | 22 => ⟨S_, .i32⟩
  | 23 => ⟨S8192x1, .i32⟩
  | 24 => ⟨S8192x1, .i32⟩
  | 25 => ⟨S8192x1, .i32⟩
  | 26 => ⟨S_, .i32⟩
  | 27 => ⟨S_, .i32⟩
  | 28 => ⟨S1x8192, .i32⟩
  | 29 => ⟨S1x8192, .i32⟩
  | 30 => ⟨S1x8192, .i32⟩
  | 31 => ⟨S_, .i32⟩
  | 32 => ⟨S1x8192, .i32⟩
  | 33 => ⟨S1x8192, .i1⟩
  | 34 => ⟨S1x8192, .i32⟩
  | 35 => ⟨S1x8192, .i32⟩
  | 36 => ⟨S_, .i32⟩
  | 37 => ⟨S1x8192, .i32⟩
  | 38 => ⟨S1x8192, .i1⟩
  | 39 => ⟨S1x8192, .i1⟩
  | 40 => ⟨S_, .i32⟩
  | 41 => ⟨S1x8192, .i32⟩
  | 42 => ⟨S1x8192, .i32⟩
  | 43 => ⟨S1x8192, .i32⟩
  | 44 => ⟨S8192x8192, .i32⟩
  | 45 => ⟨S8192x8192, .i32⟩
  | 46 => ⟨S8192x8192, .i1⟩
  | 47 => ⟨S8192x8192, .i32⟩
  | 48 => ⟨S8192x8192, .i32⟩
  | 49 => ⟨S8192x8192, .i32⟩
  | 50 => ⟨S8192x8192, .i32⟩
  | 51 => ⟨S8192x8192, .i32⟩
  | 52 => ⟨S8192x8192, .i32⟩
  | 53 => ⟨S8192x8192, .i32⟩
  | 54 => ⟨S8192x8192, .i32⟩
  | 55 => ⟨S8192x8192, .f32⟩
  | 56 => ⟨S_, .i32⟩
  | 57 => ⟨S_, .i32⟩
  | 58 => ⟨S1x8192, .i32⟩
  | 59 => ⟨S1x8192, .i32⟩
  | 60 => ⟨S1x8192, .i32⟩
  | 61 => ⟨S_, .i32⟩
  | 62 => ⟨S1x8192, .i32⟩
  | 63 => ⟨S1x8192, .i1⟩
  | 64 => ⟨S1x8192, .i32⟩
  | 65 => ⟨S1x8192, .i32⟩
  | 66 => ⟨S_, .i32⟩
  | 67 => ⟨S1x8192, .i32⟩
  | 68 => ⟨S1x8192, .i1⟩
  | 69 => ⟨S1x8192, .i1⟩
  | 70 => ⟨S_, .i32⟩
  | 71 => ⟨S1x8192, .i32⟩
  | 72 => ⟨S1x8192, .i32⟩
  | 73 => ⟨S1x8192, .i32⟩
  | 74 => ⟨S_, .i32⟩
  | 75 => ⟨S_, .i32⟩
  | 76 => ⟨S8192x1, .i32⟩
  | 77 => ⟨S8192x1, .i32⟩
  | 78 => ⟨S8192x1, .i32⟩
  | 79 => ⟨S_, .i32⟩
  | 80 => ⟨S8192x1, .i32⟩
  | 81 => ⟨S8192x1, .i1⟩
  | 82 => ⟨S8192x1, .i32⟩
  | 83 => ⟨S8192x1, .i32⟩
  | 84 => ⟨S_, .i32⟩
  | 85 => ⟨S8192x1, .i32⟩
  | 86 => ⟨S8192x1, .i1⟩
  | 87 => ⟨S8192x1, .i1⟩
  | 88 => ⟨S_, .i32⟩
  | 89 => ⟨S8192x1, .i32⟩
  | 90 => ⟨S8192x1, .i32⟩
  | 91 => ⟨S8192x1, .i32⟩
  | 92 => ⟨S8192x8192, .i32⟩
  | 93 => ⟨S8192x8192, .i32⟩
  | 94 => ⟨S8192x8192, .i1⟩
  | 95 => ⟨S1x8192x8192, .i1⟩
  | 96 => ⟨S4x1x1, .f32⟩
  | 97 => ⟨S1x8192x8192, .f32⟩
  | 98 => ⟨S4x8192x8192, .f32⟩
  | 99 => ⟨S4x8192x8192, .f32⟩
  | 100 => ⟨S4x8192x8192, .f32⟩
  | 101 => ⟨S4x8192x8192, .f32⟩
  | 102 => ⟨S_, .f32⟩
  | 103 => ⟨S_, .f32⟩
  | 104 => ⟨S4x8192x8192, .i1⟩
  | 105 => ⟨S4x8192x8192, .f32⟩
  | 106 => ⟨S4x8192x8192, .f32⟩
  | 107 => ⟨S2x4x8192x8192, .f32⟩
  | 108 => ⟨S1x4x8192x8192, .f32⟩
  | 109 => ⟨S2x4x8192x8192, .f32⟩
  | 110 => ⟨S2x4x8192x8192, .f32⟩
  | 111 => ⟨S2x4x128x8192, .f32⟩
  | 112 => ⟨S2x8192x4x128, .f32⟩
  | 113 => ⟨S4x128, .f32⟩
  | 114 => ⟨S2x8192x4x128, .f32⟩
  | 115 => ⟨S_, .f32⟩
  | 116 => ⟨S2x8192x4, .f32⟩
  | 117 => ⟨S2x8192x4x1, .f32⟩
  | 118 => ⟨S_, .f32⟩
  | 119 => ⟨S2x8192x4x1, .f32⟩
  | 120 => ⟨S2x8192x4x1, .f32⟩
  | 121 => ⟨S_, .f32⟩
  | 122 => ⟨S2x8192x4x1, .f32⟩
  | 123 => ⟨S2x8192x4x1, .f32⟩
  | 124 => ⟨S2x8192x4x1, .f32⟩
  | 125 => ⟨S2x8192x4x128, .f32⟩
  | 126 => ⟨S2x8192x4x128, .f32⟩
  | 127 => ⟨S1x1x4x128, .f32⟩
  | _ => ⟨S2x8192x1024, .f32⟩

abbrev hbmTy0_4 (i : Nat) : BufTy := match i % 128 with
  | 0 => ⟨S2x8192x4x128, .f32⟩
  | 1 => ⟨S2x8192x4x128, .f32⟩
  | 2 => ⟨S2x8192x512, .f32⟩
  | 3 => ⟨S2x8192x512, .f32⟩
  | 4 => ⟨S2x8192x512, .f32⟩
  | 5 => ⟨S_, .f32⟩
  | 6 => ⟨S2x8192x512, .f32⟩
  | 7 => ⟨S2x8192x512, .f32⟩
  | 8 => ⟨S_, .f32⟩
  | 9 => ⟨S2x8192x512, .f32⟩
  | 10 => ⟨S2x8192x512, .f32⟩
  | 11 => ⟨S2x8192x512, .f32⟩
  | 12 => ⟨S2x8192x512, .f32⟩
  | 13 => ⟨S2x8192x1024, .f32⟩
  | 14 => ⟨S1x1024x1024, .f32⟩
  | 15 => ⟨S1024x1024, .f32⟩
  | 16 => ⟨S2x8192x1024, .f32⟩
  | 17 => ⟨S2x8192x1024, .f32⟩
  | 18 => ⟨S16384x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_call0_v0 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_v271 : Ref sig .tc := ⟨.hbm, 292, rfl⟩
abbrev main_v272 : Ref sig .tc := ⟨.hbm, 293, rfl⟩
abbrev main_v273 : Ref sig .tc := ⟨.hbm, 294, rfl⟩
abbrev main_v274 : Ref sig .tc := ⟨.hbm, 295, rfl⟩
abbrev main_v275 : Ref sig .tc := ⟨.hbm, 296, rfl⟩
abbrev main_v276 : Ref sig .tc := ⟨.hbm, 297, rfl⟩
abbrev main_v277 : Ref sig .tc := ⟨.hbm, 298, rfl⟩
abbrev main_v278 : Ref sig .tc := ⟨.hbm, 299, rfl⟩
abbrev main_v279 : Ref sig .tc := ⟨.hbm, 300, rfl⟩
abbrev main_cst_9 : Ref sig .tc := ⟨.hbm, 301, rfl⟩
abbrev main_v280 : Ref sig .tc := ⟨.hbm, 302, rfl⟩
abbrev main_v281 : Ref sig .tc := ⟨.hbm, 303, rfl⟩
abbrev main_cst_10 : Ref sig .tc := ⟨.hbm, 304, rfl⟩
abbrev main_v282 : Ref sig .tc := ⟨.hbm, 305, rfl⟩
abbrev main_v283 : Ref sig .tc := ⟨.hbm, 306, rfl⟩
abbrev main_v284 : Ref sig .tc := ⟨.hbm, 307, rfl⟩
abbrev main_v285 : Ref sig .tc := ⟨.hbm, 308, rfl⟩
abbrev main_v286 : Ref sig .tc := ⟨.hbm, 309, rfl⟩
abbrev main_cst_11 : Ref sig .tc := ⟨.hbm, 310, rfl⟩
abbrev main_v287 : Ref sig .tc := ⟨.hbm, 311, rfl⟩
abbrev main_v288 : Ref sig .tc := ⟨.hbm, 312, rfl⟩
abbrev main_cst_12 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_cst_13 : Ref sig .tc := ⟨.hbm, 318, rfl⟩
abbrev main_v293 : Ref sig .tc := ⟨.hbm, 319, rfl⟩
abbrev main_v294 : Ref sig .tc := ⟨.hbm, 320, rfl⟩
abbrev main_v295 : Ref sig .tc := ⟨.hbm, 321, rfl⟩
abbrev main_v296 : Ref sig .tc := ⟨.hbm, 322, rfl⟩
abbrev main_v297 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_v302 : Ref sig .tc := ⟨.hbm, 328, rfl⟩
abbrev main_v303 : Ref sig .tc := ⟨.hbm, 329, rfl⟩
abbrev main_call1_v0 : Ref sig .tc := ⟨.hbm, 330, rfl⟩
abbrev main_call1_v1 : Ref sig .tc := ⟨.hbm, 331, rfl⟩
abbrev main_call1_cst : Ref sig .tc := ⟨.hbm, 332, rfl⟩
abbrev main_call1_v2 : Ref sig .tc := ⟨.hbm, 333, rfl⟩
abbrev main_call1_v3 : Ref sig .tc := ⟨.hbm, 334, rfl⟩
abbrev main_call1_cst_0 : Ref sig .tc := ⟨.hbm, 335, rfl⟩
abbrev main_call1_v4 : Ref sig .tc := ⟨.hbm, 336, rfl⟩
abbrev main_call1_v5 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_cst_14 : Ref sig .tc := ⟨.hbm, 373, rfl⟩
abbrev main_v339 : Ref sig .tc := ⟨.hbm, 374, rfl⟩
abbrev main_v340 : Ref sig .tc := ⟨.hbm, 375, rfl⟩
abbrev main_v341 : Ref sig .tc := ⟨.hbm, 376, rfl⟩
abbrev main_v342 : Ref sig .tc := ⟨.hbm, 377, rfl⟩
abbrev main_cst_15 : Ref sig .tc := ⟨.hbm, 378, rfl⟩
abbrev main_v343 : Ref sig .tc := ⟨.hbm, 379, rfl⟩
abbrev main_v344 : Ref sig .tc := ⟨.hbm, 380, rfl⟩
abbrev main_cst_16 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_cst_17 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_c_18 : Ref sig .tc := ⟨.hbm, 392, rfl⟩
abbrev main_call2_v0 : Ref sig .tc := ⟨.hbm, 393, rfl⟩
abbrev main_call2_v1 : Ref sig .tc := ⟨.hbm, 394, rfl⟩
abbrev main_call2_v2 : Ref sig .tc := ⟨.hbm, 395, rfl⟩
abbrev main_call2_v3 : Ref sig .tc := ⟨.hbm, 396, rfl⟩
abbrev main_call2_v4 : Ref sig .tc := ⟨.hbm, 397, rfl⟩
abbrev main_call2_v5 : Ref sig .tc := ⟨.hbm, 398, rfl⟩
abbrev main_call2_v6 : Ref sig .tc := ⟨.hbm, 399, rfl⟩
abbrev main_call2_v7 : Ref sig .tc := ⟨.hbm, 400, rfl⟩
abbrev main_call2_v8 : Ref sig .tc := ⟨.hbm, 401, rfl⟩
abbrev main_call2_c : Ref sig .tc := ⟨.hbm, 402, rfl⟩
abbrev main_call2_v9 : Ref sig .tc := ⟨.hbm, 403, rfl⟩
abbrev main_call2_v10 : Ref sig .tc := ⟨.hbm, 404, rfl⟩
abbrev main_call2_v11 : Ref sig .tc := ⟨.hbm, 405, rfl⟩
abbrev main_call2_c_0 : Ref sig .tc := ⟨.hbm, 406, rfl⟩
abbrev main_call2_v12 : Ref sig .tc := ⟨.hbm, 407, rfl⟩
abbrev main_call2_v13 : Ref sig .tc := ⟨.hbm, 408, rfl⟩
abbrev main_v354 : Ref sig .tc := ⟨.hbm, 409, rfl⟩
abbrev main_c_19 : Ref sig .tc := ⟨.hbm, 410, rfl⟩
abbrev main_call3_v0 : Ref sig .tc := ⟨.hbm, 411, rfl⟩
abbrev main_call3_v1 : Ref sig .tc := ⟨.hbm, 412, rfl⟩
abbrev main_call3_v2 : Ref sig .tc := ⟨.hbm, 413, rfl⟩
abbrev main_call3_v3 : Ref sig .tc := ⟨.hbm, 414, rfl⟩
abbrev main_call3_v4 : Ref sig .tc := ⟨.hbm, 415, rfl⟩
abbrev main_call3_v5 : Ref sig .tc := ⟨.hbm, 416, rfl⟩
abbrev main_call3_v6 : Ref sig .tc := ⟨.hbm, 417, rfl⟩
abbrev main_call3_v7 : Ref sig .tc := ⟨.hbm, 418, rfl⟩
abbrev main_call3_v8 : Ref sig .tc := ⟨.hbm, 419, rfl⟩
abbrev main_call3_c : Ref sig .tc := ⟨.hbm, 420, rfl⟩
abbrev main_call3_v9 : Ref sig .tc := ⟨.hbm, 421, rfl⟩
abbrev main_call3_v10 : Ref sig .tc := ⟨.hbm, 422, rfl⟩
abbrev main_call3_v11 : Ref sig .tc := ⟨.hbm, 423, rfl⟩
abbrev main_call3_c_0 : Ref sig .tc := ⟨.hbm, 424, rfl⟩
abbrev main_call3_v12 : Ref sig .tc := ⟨.hbm, 425, rfl⟩
abbrev main_call3_v13 : Ref sig .tc := ⟨.hbm, 426, rfl⟩
abbrev main_v355 : Ref sig .tc := ⟨.hbm, 427, rfl⟩
abbrev main_v356 : Ref sig .tc := ⟨.hbm, 428, rfl⟩
abbrev main_v357 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_c_20 : Ref sig .tc := ⟨.hbm, 440, rfl⟩
abbrev main_call5_v0 : Ref sig .tc := ⟨.hbm, 441, rfl⟩
abbrev main_call5_v1 : Ref sig .tc := ⟨.hbm, 442, rfl⟩
abbrev main_call5_v2 : Ref sig .tc := ⟨.hbm, 443, rfl⟩
abbrev main_call5_v3 : Ref sig .tc := ⟨.hbm, 444, rfl⟩
abbrev main_call5_v4 : Ref sig .tc := ⟨.hbm, 445, rfl⟩
abbrev main_call5_v5 : Ref sig .tc := ⟨.hbm, 446, rfl⟩
abbrev main_call5_v6 : Ref sig .tc := ⟨.hbm, 447, rfl⟩
abbrev main_call5_v7 : Ref sig .tc := ⟨.hbm, 448, rfl⟩
abbrev main_call5_v8 : Ref sig .tc := ⟨.hbm, 449, rfl⟩
abbrev main_call5_c : Ref sig .tc := ⟨.hbm, 450, rfl⟩
abbrev main_call5_v9 : Ref sig .tc := ⟨.hbm, 451, rfl⟩
abbrev main_call5_v10 : Ref sig .tc := ⟨.hbm, 452, rfl⟩
abbrev main_call5_v11 : Ref sig .tc := ⟨.hbm, 453, rfl⟩
abbrev main_call5_c_0 : Ref sig .tc := ⟨.hbm, 454, rfl⟩
abbrev main_call5_v12 : Ref sig .tc := ⟨.hbm, 455, rfl⟩
abbrev main_call5_v13 : Ref sig .tc := ⟨.hbm, 456, rfl⟩
abbrev main_v368 : Ref sig .tc := ⟨.hbm, 457, rfl⟩
abbrev main_c_21 : Ref sig .tc := ⟨.hbm, 458, rfl⟩
abbrev main_call6_v0 : Ref sig .tc := ⟨.hbm, 459, rfl⟩
abbrev main_call6_v1 : Ref sig .tc := ⟨.hbm, 460, rfl⟩
abbrev main_call6_v2 : Ref sig .tc := ⟨.hbm, 461, rfl⟩
abbrev main_call6_v3 : Ref sig .tc := ⟨.hbm, 462, rfl⟩
abbrev main_call6_v4 : Ref sig .tc := ⟨.hbm, 463, rfl⟩
abbrev main_call6_v5 : Ref sig .tc := ⟨.hbm, 464, rfl⟩
abbrev main_call6_v6 : Ref sig .tc := ⟨.hbm, 465, rfl⟩
abbrev main_call6_v7 : Ref sig .tc := ⟨.hbm, 466, rfl⟩
abbrev main_call6_v8 : Ref sig .tc := ⟨.hbm, 467, rfl⟩
abbrev main_call6_c : Ref sig .tc := ⟨.hbm, 468, rfl⟩
abbrev main_call6_v9 : Ref sig .tc := ⟨.hbm, 469, rfl⟩
abbrev main_call6_v10 : Ref sig .tc := ⟨.hbm, 470, rfl⟩
abbrev main_call6_v11 : Ref sig .tc := ⟨.hbm, 471, rfl⟩
abbrev main_call6_c_0 : Ref sig .tc := ⟨.hbm, 472, rfl⟩
abbrev main_call6_v12 : Ref sig .tc := ⟨.hbm, 473, rfl⟩
abbrev main_call6_v13 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩
abbrev main_v373 : Ref sig .tc := ⟨.hbm, 479, rfl⟩
abbrev main_v374 : Ref sig .tc := ⟨.hbm, 480, rfl⟩
abbrev main_v375 : Ref sig .tc := ⟨.hbm, 481, rfl⟩
abbrev main_v376 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_cst_22 : Ref sig .tc := ⟨.hbm, 486, rfl⟩
abbrev main_call7_v0 : Ref sig .tc := ⟨.hbm, 487, rfl⟩
abbrev main_call7_v1 : Ref sig .tc := ⟨.hbm, 488, rfl⟩
abbrev main_call7_v2 : Ref sig .tc := ⟨.hbm, 489, rfl⟩
abbrev main_v380 : Ref sig .tc := ⟨.hbm, 490, rfl⟩
abbrev main_v381 : Ref sig .tc := ⟨.hbm, 491, rfl⟩
abbrev main_v382 : Ref sig .tc := ⟨.hbm, 492, rfl⟩
abbrev main_v383 : Ref sig .tc := ⟨.hbm, 493, rfl⟩
abbrev main_v384 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_v388 : Ref sig .tc := ⟨.hbm, 498, rfl⟩
abbrev main_cst_23 : Ref sig .tc := ⟨.hbm, 499, rfl⟩
abbrev main_v389 : Ref sig .tc := ⟨.hbm, 500, rfl⟩
abbrev main_v390 : Ref sig .tc := ⟨.hbm, 501, rfl⟩
abbrev main_cst_24 : Ref sig .tc := ⟨.hbm, 502, rfl⟩
abbrev main_v391 : Ref sig .tc := ⟨.hbm, 503, rfl⟩
abbrev main_v392 : Ref sig .tc := ⟨.hbm, 504, rfl⟩
abbrev main_cst_25 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_call8_v0 : Ref sig .tc := ⟨.hbm, 515, rfl⟩
abbrev main_call8_v1 : Ref sig .tc := ⟨.hbm, 516, rfl⟩
abbrev main_call8_cst : Ref sig .tc := ⟨.hbm, 517, rfl⟩
abbrev main_call8_v2 : Ref sig .tc := ⟨.hbm, 518, rfl⟩
abbrev main_call8_v3 : Ref sig .tc := ⟨.hbm, 519, rfl⟩
abbrev main_call8_cst_0 : Ref sig .tc := ⟨.hbm, 520, rfl⟩
abbrev main_call8_v4 : Ref sig .tc := ⟨.hbm, 521, rfl⟩
abbrev main_call8_v5 : Ref sig .tc := ⟨.hbm, 522, rfl⟩
abbrev main_v402 : Ref sig .tc := ⟨.hbm, 523, rfl⟩
abbrev main_v403 : Ref sig .tc := ⟨.hbm, 524, rfl⟩
abbrev main_v404 : Ref sig .tc := ⟨.hbm, 525, rfl⟩
abbrev main_v405 : Ref sig .tc := ⟨.hbm, 526, rfl⟩
abbrev main_v406 : Ref sig .tc := ⟨.hbm, 527, rfl⟩
abbrev main_v407 : Ref sig .tc := ⟨.hbm, 528, rfl⟩
abbrev main_v408 : Ref sig .tc := ⟨.hbm, 529, rfl⟩
abbrev main_v409 : Ref sig .tc := ⟨.hbm, 530, rfl⟩

abbrev nD : Nat := 1
abbrev τ : Topo := Topo.v7x

variable {F : FTy → Type} [FloatOps F]
-- ==== FfnFirst.lean ====
abbrev S2x8192x1024 : Shape := ⟨3, ![2, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x4096 : Shape := ⟨2, ![1024, 4096]⟩
abbrev S4096x1024 : Shape := ⟨2, ![4096, 1024]⟩
abbrev S2x128x4096 : Shape := ⟨3, ![2, 128, 4096]⟩
abbrev S2 : Shape := ⟨1, ![2]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S2x512x1024 : Shape := ⟨3, ![2, 512, 1024]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S16384x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x4096, .bf16⟩
  | .local _ .vmem, ⟨7, _⟩ => ⟨S4096x1024, .bf16⟩
  | .local _ .vmem, ⟨8, _⟩ => ⟨S2x128x4096, .f32⟩
  | .local _ .vmem, ⟨9, _⟩ => ⟨S2x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnFirstReferenceIdeal.lean ====
abbrev S2x8192x1024 : Shape := ⟨3, ![2, 8192, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024 : Shape := ⟨2, ![1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x4096, .f32⟩
  | .hbm, ⟨3, _⟩ => ⟨S2x4096x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x4096, .f32⟩
  | .hbm, ⟨24, _⟩ => ⟨S1024x4096, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S1x4096x1024, .f32⟩
  | .hbm, ⟨31, _⟩ => ⟨S4096x1024, .f32⟩
  | .hbm, ⟨32, _⟩ => ⟨S2x8192x1024, .f32⟩
  | .hbm, ⟨33, _⟩ => ⟨S2x8192x1024, .f32⟩
  | .hbm, ⟨34, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Ffn.Runs.lean ====
/- What the feed-forward call's two runs share: the launch facts over the resource algebra with transfers, the branch
   condition in closed form, the names of the scratch and of the operands left in HBM, and the launch invariant listed. -/
module

public import proofs.«01_k».proof.Proof.Gen.FfnIdeal.Frame
public import proofs.«01_k».proof.Proof.Gen.FfnIdeal.Skeleton

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x4096 .bf16 := Memref.whole cc0_scratch0
abbrev scM0_1 : Memref sig .tc .vmem S4096x1024 .bf16 := Memref.whole cc0_scratch1
abbrev scM0_2 : Memref sig .tc .vmem S2x128x4096 .f32 := Memref.whole cc0_scoped0
abbrev scM0_3 : Memref sig .tc .vmem S2x512x1024 .f32 := Memref.whole cc0_scoped2
/-- The operands left in HBM that the body copies into scratch itself, whole. -/
abbrev hbM0_0 : Memref sig .tc .hbm S2x1024x4096 .f32 := Memref.whole main_arg2
abbrev hbM0_1 : Memref sig .tc .hbm S2x4096x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, scM0_2, scM0_3, owns_whole]; try rfl

end Cert.FfnIdeal.Run

end
-- ==== Proof.Ffn.Weights.lean ====
/- The feed-forward call's weights: what the first point's transfers through the two staging slots leave in the scratch, and
   the tile the body leaves as a function of its blocks and of that scratch. -/
module

public import proofs.«01_k».proof.Proof.Ffn.Runs
public import Idealize.ShloMosaic.Lib.Pointwise
public import Idealize.ShloMosaic.Lib.Pipeline.Value
public import Idealize.ShloMosaic.Lib.WritesUnit
public import Idealize.ShloMosaic.Lib.VecWindow

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the first point's transfers leave -/

section Staged
variable {sg : RefSig} {κ : Kind} {sp : Space} {Val : EltTy → Type} {e : EltTy} {s s' : Shape}

/-- A load of the slot a transfer was last made into (the slot addressed by a squeezed slice) reads what the transfer
    read, when that was itself a squeezed slice: the slice of the source, with its unit axis. -/
theorem staged_hit {κ' : Kind} {sp' : Space} {t : Shape} (A : Memref sg κ sp s e) (M : Memref sg κ' sp' t e)
    (off : Fin s.rank → ℕ) (size : Fin s.rank → ℕ) (inb : ∀ a, off a + size a ≤ s.size a)
    (r' : Rect t) (hr' : ∀ a, r'.stride a = 1) (hs : r'.shape = (Rect.unit off size inb).shape)
    (h : ∀ a, (Rect.unit off size inb).stride a = 1)
    (hq : (Rect.unit off size inb).shape.Squeezes s') (hq' : r'.shape.Squeezes s')
    (f : A.view.ty.Contents Val) (g : M.view.ty.Contents Val) (j : (Rect.unit off size inb).shape.Idx) :
    A.view.readAt Val (Rect.unit off size inb).toLoadRect
      (View.write Val ((A.slice (Rect.unit off size inb) h).squeeze s' hq).view f
        (((M.slice r' hr').squeeze s' hq').view.read Val g) Finset.univ) j
      = M.view.readAt Val r'.toLoadRect g (cast (congrArg Shape.Idx hs.symm) j) := by
  show A.view.read Val (View.write Val ((A.view.slice (Rect.unit off size inb)).reshape s' hq.numel_eq) f _ Finset.univ) ((Rect.unit off size inb).emb j) = _
  rw [View.write_reshape_univ]
  rw [View.read_slice_write_emb _ _ _ (Finset.mem_univ j)]
  show M.view.read Val g (r'.emb (Shape.reshapeEquiv hq'.numel_eq ((Shape.reshapeEquiv hq.numel_eq).symm j))) = M.view.read Val g (r'.emb _)
  congr 2
  generalize hR : (Rect.unit off size inb).shape = R at hs hq j
  subst hs
  exact Equiv.apply_symm_apply (Shape.reshapeEquiv hq.numel_eq) j

/-- A load of one slot does not see a transfer made into another. -/
theorem staged_skip (A : Memref sg κ sp s e)
    (off off' : Fin s.rank → ℕ) (size : Fin s.rank → ℕ) (inb : ∀ a, off a + size a ≤ s.size a) (inb' : ∀ a, off' a + size a ≤ s.size a)
    (h : ∀ a, (Rect.unit off' size inb').stride a = 1) (hq : (Rect.unit off' size inb').shape.Squeezes s')
    (f : A.view.ty.Contents Val) (d : s'.Idx → Val e) (a : Fin s.rank) (ha : off a + size a ≤ off' a ∨ off' a + size a ≤ off a) :
    A.view.readAt Val (Rect.unit off size inb).toLoadRect
      (View.write Val ((A.slice (Rect.unit off' size inb') h).squeeze s' hq).view f d Finset.univ)
      = A.view.readAt Val (Rect.unit off size inb).toLoadRect f := by
  funext j
  show A.view.read Val (View.write Val ((A.view.slice (Rect.unit off' size inb')).reshape s' hq.numel_eq) f _ Finset.univ) ((Rect.unit off size inb).emb j) = A.view.read Val f _
  rw [View.write_reshape_univ]
  refine View.read_slice_write_of_not_mem _ _ _ _ ?_
  rw [Rect.map_emb_univ, Rect.mem_set_unit]
  intro hall
  have h1 := hall a
  have h2 : ((Rect.unit off size inb).emb j a).val = off a + 1 * (j a).val := rfl
  have h3 : (j a).val < size a := (j a).isLt
  omega

end Staged

/-- The up-projection's weights as the kernel keeps them: the second layer's, narrowed. -/
def W1 {c : Dev nD} (f : HbBuf0 (F := F) c hbM0_0) : Vec F S1024x4096 .bf16 :=
  truncf .bf16 (fun i => hbM0_0.view.read (Elt F) f (ix3 1 (i 0) (i 1)) : FVec F S1024x4096 .f32) bitsLt_bf16_f32

/-- The down-projection's weights as the kernel keeps them: the second layer's, narrowed. -/
def W2 {c : Dev nD} (f : HbBuf0 (F := F) c hbM0_1) : Vec F S4096x1024 .bf16 :=
  truncf .bf16 (fun i => hbM0_1.view.read (Elt F) f (ix3 1 (i 0) (i 1)) : FVec F S4096x1024 .f32) bitsLt_bf16_f32

/-- A thousand columns of the up-projection from column `o`. -/
def cols (w : Vec F S1024x4096 .bf16) (o : ℕ) (h : o + 1024 ≤ 4096) : Vec F S1024x1024 .bf16 :=
  fun i => w (ix2 (i 0) ⟨o + (i 1).val, lt_of_lt_of_le (Nat.add_lt_add_left (i 1).isLt o) h⟩)

/-- A thousand rows of the down-projection from row `o`. -/
def rows (w : Vec F S4096x1024 .bf16) (o : ℕ) (h : o + 1024 ≤ 4096) : Vec F S1024x1024 .bf16 :=
  fun i => w (ix2 ⟨o + (i 0).val, lt_of_lt_of_le (Nat.add_lt_add_left (i 0).isLt o) h⟩ (i 1))

/-- The second layer's gains. -/
def gain (g : Vec F S2x1024 .f32) : Vec F S1x1024 .f32 := fun i => g (ix2 1 (i 1))

/-- What the body leaves in its output block, from its input blocks and the two kept matrices. -/
def tileOut (x : Vec F S1024x1024 .f32) (g : Vec F S2x1024 .f32) (gf : Vec F S1x1024 .f32)
    (w1 : Vec F S1024x4096 .bf16) (w2 : Vec F S4096x1024 .bf16) : Vec F S1024x1024 .f32 :=
  k0_pay1 (k0_pay19 x (gain g)) (k0_pay20 x (gain g) (cols w1 0 (by omega)) (rows w2 0 (by omega)))
    (k0_pay21 x (gain g) (cols w1 1024 (by omega))) (rows w2 1024 (by omega)) (constant S1024x1024 .f32 0x00000000#32)
    (cols w1 2048 (by omega)) (rows w2 2048 (by omega)) (cols w1 3072 (by omega)) (rows w2 3072 (by omega)) gf

theorem readAt_cols (v : View sig .tc .vmem S1024x4096 .bf16) (f : v.ty.Contents (Elt F)) (o : ℕ) (h : o + 1024 ≤ 4096)
    (inb : ∀ a, (![0, o] : Fin 2 → ℕ) a + (![1024, 1024] : Fin 2 → ℕ) a ≤ S1024x4096.size a) :
    v.readAt (Elt F) (Rect.unit (s := S1024x4096) ![0, o] ![1024, 1024] inb).toLoadRect f = cols (v.read (Elt F) f) o h := by
  funext j
  refine congrArg (v.read (Elt F) f) (funext fun a => Fin.ext ?_)
  fin_cases a
  · show 0 + 1 * (j 0).val = (j 0).val; omega
  · show o + 1 * (j 1).val = o + (j 1).val; omega

theorem readAt_rows (v : View sig .tc .vmem S4096x1024 .bf16) (f : v.ty.Contents (Elt F)) (o : ℕ) (h : o + 1024 ≤ 4096)
    (inb : ∀ a, (![o, 0] : Fin 2 → ℕ) a + (![1024, 1024] : Fin 2 → ℕ) a ≤ S4096x1024.size a) :
    v.readAt (Elt F) (Rect.unit (s := S4096x1024) ![o, 0] ![1024, 1024] inb).toLoadRect f = rows (v.read (Elt F) f) o h := by
  funext j
  refine congrArg (v.read (Elt F) f) (funext fun a => Fin.ext ?_)
  fin_cases a
  · show o + 1 * (j 0).val = o + (j 0).val; omega
  · show 0 + 1 * (j 1).val = (j 1).val; omega

theorem readCov_cols (v : View sig .tc .vmem S1024x4096 .bf16) (L : List (View.Piece (Elt F) S1024x4096 .bf16))
    (w : Vec F S1024x4096 .bf16) (hL : View.canon L = w) (o : ℕ) (h : o + 1024 ≤ 4096)
    (inb : ∀ a, (![0, o] : Fin 2 → ℕ) a + (![1024, 1024] : Fin 2 → ℕ) a ≤ S1024x4096.size a) :
    v.readCov L (Rect.unit (s := S1024x4096) ![0, o] ![1024, 1024] inb).toLoadRect = cols w o h := by
  rw [View.readCov, readAt_cols v _ o h, View.read_writes_junk_eq_canon, hL]

theorem readCov_rows (v : View sig .tc .vmem S4096x1024 .bf16) (L : List (View.Piece (Elt F) S4096x1024 .bf16))
    (w : Vec F S4096x1024 .bf16) (hL : View.canon L = w) (o : ℕ) (h : o + 1024 ≤ 4096)
    (inb : ∀ a, (![o, 0] : Fin 2 → ℕ) a + (![1024, 1024] : Fin 2 → ℕ) a ≤ S4096x1024.size a) :
    v.readCov L (Rect.unit (s := S4096x1024) ![o, 0] ![1024, 1024] inb).toLoadRect = rows w o h := by
  rw [View.readCov, readAt_rows v _ o h, View.read_writes_junk_eq_canon, hL]

theorem readAt_gain (v : View sig .tc .vmem S2x1024 .f32) (f : v.ty.Contents (Elt F))
    (inb : ∀ a, (![1, 0] : Fin 2 → ℕ) a + (![1, 1024] : Fin 2 → ℕ) a ≤ S2x1024.size a) :
    v.readAt (Elt F) (Rect.unit (s := S2x1024) ![1, 0] ![1, 1024] inb).toLoadRect f = gain (v.read (Elt F) f) := by
  funext j
  refine congrArg (v.read (Elt F) f) (funext fun a => Fin.ext ?_)
  have h0 : (j 0).val < 1 := (j 0).isLt
  fin_cases a
  · show 1 + 1 * (j 0).val = 1; omega
  · show 0 + 1 * (j 1).val = (j 1).val; omega

/-- The body's stored tile is `tileOut` when each of its loads is the part of the named contents it says. -/
theorem tileOut_of {x x' : Vec F S1024x1024 .f32} {g : Vec F S2x1024 .f32} {g' : Vec F S1x1024 .f32} {gf gf' : Vec F S1x1024 .f32}
    {w1 : Vec F S1024x4096 .bf16} {w2 : Vec F S4096x1024 .bf16} {a0 a1 a2 a3 b0 b1 b2 b3 : Vec F S1024x1024 .bf16}
    (hx : x' = x) (hg : g' = gain g) (hgf : gf' = gf)
    (ha0 : a0 = cols w1 0 (by omega)) (hb0 : b0 = rows w2 0 (by omega)) (ha1 : a1 = cols w1 1024 (by omega)) (hb1 : b1 = rows w2 1024 (by omega))
    (ha2 : a2 = cols w1 2048 (by omega)) (hb2 : b2 = rows w2 2048 (by omega)) (ha3 : a3 = cols w1 3072 (by omega)) (hb3 : b3 = rows w2 3072 (by omega)) :
    k0_pay1 (k0_pay19 x' g') (k0_pay20 x' g' a0 b0) (k0_pay21 x' g' a1) b1 (constant S1024x1024 .f32 0x00000000#32) a2 b2 a3 b3 gf'
      = tileOut x g gf w1 w2 := by
  subst hx hg hgf ha0 hb0 ha1 hb1 ha2 hb2 ha3 hb3
  rfl

/-- A chunk of the up-projection's rows, narrowed, is that chunk of the kept matrix. -/
theorem piece1 {c : Dev nD} (f : HbBuf0 (F := F) c hbM0_0) (o : ℕ)
    (inb : ∀ a, (![o, 0] : Fin 2 → ℕ) a + S128x4096.size a ≤ S1024x4096.size a) (inb' : ∀ a, (![1, o, 0] : Fin 3 → ℕ) a + S1x128x4096.size a ≤ S2x1024x4096.size a)
    (v : Vec F S1x128x4096 .f32) (hv : v = hbM0_0.view.readAt (Elt F) (Rect.unit (s := S2x1024x4096) ![1, o, 0] S1x128x4096.size inb').toLoadRect f)
    (x : S128x4096.Idx) : k0_pay2 v x = W1 f ((Rect.unit (s := S1024x4096) ![o, 0] S128x4096.size inb).emb x) := by
  subst hv
  have hcast : ∀ w : Vec F S1x128x4096 .f32, k0_pay2 w x = truncf .bf16 (fun i => w (ix3 0 (i 0) (i 1)) : FVec F S128x4096 .f32) bitsLt_bf16_f32 x := by
    intro w
    rw [eq_ix2 x]
    pointwise [k0_pay2]
  rw [hcast]
  refine congrArg (fun z : F .f32 => truncf .bf16 (fun _ : S1024.Idx => z : FVec F S1024 .f32) bitsLt_bf16_f32 (ix1 0)) (congrArg (hbM0_0.view.read (Elt F) f) (funext fun a => Fin.ext ?_))
  fin_cases a
  · rfl
  · show o + 1 * (x 0).val = o + 1 * (x 0).val; rfl
  · show 0 + 1 * (x 1).val = 0 + 1 * (x 1).val; rfl

/-- A chunk of the down-projection's rows, narrowed, is that chunk of the kept matrix. -/
theorem piece2 {c : Dev nD} (f : HbBuf0 (F := F) c hbM0_1) (o : ℕ)
    (inb : ∀ a, (![o, 0] : Fin 2 → ℕ) a + S512x1024.size a ≤ S4096x1024.size a) (inb' : ∀ a, (![1, o, 0] : Fin 3 → ℕ) a + S1x512x1024.size a ≤ S2x4096x1024.size a)
    (v : Vec F S1x512x1024 .f32) (hv : v = hbM0_1.view.readAt (Elt F) (Rect.unit (s := S2x4096x1024) ![1, o, 0] S1x512x1024.size inb').toLoadRect f)
    (x : S512x1024.Idx) : k0_pay10 v x = W2 f ((Rect.unit (s := S4096x1024) ![o, 0] S512x1024.size inb).emb x) := by
  subst hv
  have hcast : ∀ w : Vec F S1x512x1024 .f32, k0_pay10 w x = truncf .bf16 (fun i => w (ix3 0 (i 0) (i 1)) : FVec F S512x1024 .f32) bitsLt_bf16_f32 x := by
    intro w
    rw [eq_ix2 x]
    pointwise [k0_pay10]
  rw [hcast]
  refine congrArg (fun z : F .f32 => truncf .bf16 (fun _ : S1024.Idx => z : FVec F S1024 .f32) bitsLt_bf16_f32 (ix1 0)) (congrArg (hbM0_1.view.read (Elt F) f) (funext fun a => Fin.ext ?_))
  fin_cases a
  · rfl
  · show o + 1 * (x 0).val = o + 1 * (x 0).val; rfl
  · show 0 + 1 * (x 1).val = 0 + 1 * (x 1).val; rfl

theorem mem_chunk1 (y : S1024x4096.Idx) (o : ℕ) (inb : ∀ a, (![o, 0] : Fin 2 → ℕ) a + S128x4096.size a ≤ S1024x4096.size a)
    (h1 : o ≤ (y 0).val) (h2 : (y 0).val < o + 128) : y ∈ (Rect.unit (s := S1024x4096) ![o, 0] S128x4096.size inb).set := by
  rw [Rect.mem_set_unit]
  intro a
  fin_cases a
  · exact ⟨h1, h2⟩
  · exact ⟨Nat.zero_le _, by show (y 1).val < 0 + 4096; have h : (y 1).val < 4096 := (y 1).isLt; omega⟩

theorem mem_chunk2 (y : S4096x1024.Idx) (o : ℕ) (inb : ∀ a, (![o, 0] : Fin 2 → ℕ) a + S512x1024.size a ≤ S4096x1024.size a)
    (h1 : o ≤ (y 0).val) (h2 : (y 0).val < o + 512) : y ∈ (Rect.unit (s := S4096x1024) ![o, 0] S512x1024.size inb).set := by
  rw [Rect.mem_set_unit]
  intro a
  fin_cases a
  · exact ⟨h1, h2⟩
  · exact ⟨Nat.zero_le _, by show (y 1).val < 0 + 1024; have h : (y 1).val < 1024 := (y 1).isLt; omega⟩

/-- A load of the slot last transferred into reads the transferred rows of the weights. -/
theorem hit1 (A : Memref sig .tc .vmem S2x128x4096 .f32) (s o : ℕ)
    (inb : ∀ a, (![s, 0, 0] : Fin 3 → ℕ) a + S1x128x4096.size a ≤ S2x128x4096.size a) (inb' : ∀ a, (![1, o, 0] : Fin 3 → ℕ) a + S1x128x4096.size a ≤ S2x1024x4096.size a)
    (h : ∀ a, (Rect.unit (s := S2x128x4096) ![s, 0, 0] S1x128x4096.size inb).stride a = 1) (h' : ∀ a, (Rect.unit (s := S2x1024x4096) ![1, o, 0] S1x128x4096.size inb').stride a = 1)
    (hq : S1x128x4096.Squeezes S128x4096) (hq' : S1x128x4096.Squeezes S128x4096) (f : A.view.ty.Contents (Elt F)) (g : hbM0_0.view.ty.Contents (Elt F))
    (d : S128x4096.Idx → Elt F .f32)
    (hd : d = ((hbM0_0.slice (Rect.unit (s := S2x1024x4096) ![1, o, 0] S1x128x4096.size inb') h').squeeze S128x4096 hq').view.read (Elt F) g) :
    A.view.readAt (Elt F) (Rect.unit (s := S2x128x4096) ![s, 0, 0] S1x128x4096.size inb).toLoadRect
      (View.write (Elt F) ((A.slice (Rect.unit (s := S2x128x4096) ![s, 0, 0] S1x128x4096.size inb) h).squeeze S128x4096 hq).view f d Finset.univ)
      = hbM0_0.view.readAt (Elt F) (Rect.unit (s := S2x1024x4096) ![1, o, 0] S1x128x4096.size inb').toLoadRect g := by
  subst hd
  exact funext fun j => staged_hit A hbM0_0 _ _ _ _ h' rfl h hq hq' f g j

/-- A load of the other slot does not see it. -/
theorem skip1 (A : Memref sig .tc .vmem S2x128x4096 .f32) (s s' : ℕ) (hs : s + 1 ≤ s' ∨ s' + 1 ≤ s)
    (inb : ∀ a, (![s, 0, 0] : Fin 3 → ℕ) a + S1x128x4096.size a ≤ S2x128x4096.size a) (inb' : ∀ a, (![s', 0, 0] : Fin 3 → ℕ) a + S1x128x4096.size a ≤ S2x128x4096.size a)
    (h : ∀ a, (Rect.unit (s := S2x128x4096) ![s', 0, 0] S1x128x4096.size inb').stride a = 1)
    (hq : S1x128x4096.Squeezes S128x4096) (f : A.view.ty.Contents (Elt F)) (d : S128x4096.Idx → Elt F .f32) :
    A.view.readAt (Elt F) (Rect.unit (s := S2x128x4096) ![s, 0, 0] S1x128x4096.size inb).toLoadRect
      (View.write (Elt F) ((A.slice (Rect.unit (s := S2x128x4096) ![s', 0, 0] S1x128x4096.size inb') h).squeeze S128x4096 hq).view f d Finset.univ)
      = A.view.readAt (Elt F) (Rect.unit (s := S2x128x4096) ![s, 0, 0] S1x128x4096.size inb).toLoadRect f :=
  staged_skip A _ _ _ inb inb' h hq f d 0 hs

/-- A load of the slot last transferred into reads the transferred rows of the weights. -/
theorem hit2 (A : Memref sig .tc .vmem S2x512x1024 .f32) (s o : ℕ)
    (inb : ∀ a, (![s, 0, 0] : Fin 3 → ℕ) a + S1x512x1024.size a ≤ S2x512x1024.size a) (inb' : ∀ a, (![1, o, 0] : Fin 3 → ℕ) a + S1x512x1024.size a ≤ S2x4096x1024.size a)
    (h : ∀ a, (Rect.unit (s := S2x512x1024) ![s, 0, 0] S1x512x1024.size inb).stride a = 1) (h' : ∀ a, (Rect.unit (s := S2x4096x1024) ![1, o, 0] S1x512x1024.size inb').stride a = 1)
    (hq : S1x512x1024.Squeezes S512x1024) (hq' : S1x512x1024.Squeezes S512x1024) (f : A.view.ty.Contents (Elt F)) (g : hbM0_1.view.ty.Contents (Elt F))
    (d : S512x1024.Idx → Elt F .f32)
    (hd : d = ((hbM0_1.slice (Rect.unit (s := S2x4096x1024) ![1, o, 0] S1x512x1024.size inb') h').squeeze S512x1024 hq').view.read (Elt F) g) :
    A.view.readAt (Elt F) (Rect.unit (s := S2x512x1024) ![s, 0, 0] S1x512x1024.size inb).toLoadRect
      (View.write (Elt F) ((A.slice (Rect.unit (s := S2x512x1024) ![s, 0, 0] S1x512x1024.size inb) h).squeeze S512x1024 hq).view f d Finset.univ)
      = hbM0_1.view.readAt (Elt F) (Rect.unit (s := S2x4096x1024) ![1, o, 0] S1x512x1024.size inb').toLoadRect g := by
  subst hd
  exact funext fun j => staged_hit A hbM0_1 _ _ _ _ h' rfl h hq hq' f g j

/-- A load of the other slot does not see it. -/
theorem skip2 (A : Memref sig .tc .vmem S2x512x1024 .f32) (s s' : ℕ) (hs : s + 1 ≤ s' ∨ s' + 1 ≤ s)
    (inb : ∀ a, (![s, 0, 0] : Fin 3 → ℕ) a + S1x512x1024.size a ≤ S2x512x1024.size a) (inb' : ∀ a, (![s', 0, 0] : Fin 3 → ℕ) a + S1x512x1024.size a ≤ S2x512x1024.size a)
    (h : ∀ a, (Rect.unit (s := S2x512x1024) ![s', 0, 0] S1x512x1024.size inb').stride a = 1)
    (hq : S1x512x1024.Squeezes S512x1024) (f : A.view.ty.Contents (Elt F)) (d : S512x1024.Idx → Elt F .f32) :
    A.view.readAt (Elt F) (Rect.unit (s := S2x512x1024) ![s, 0, 0] S1x512x1024.size inb).toLoadRect
      (View.write (Elt F) ((A.slice (Rect.unit (s := S2x512x1024) ![s', 0, 0] S1x512x1024.size inb') h).squeeze S512x1024 hq).view f d Finset.univ)
      = A.view.readAt (Elt F) (Rect.unit (s := S2x512x1024) ![s, 0, 0] S1x512x1024.size inb).toLoadRect f :=
  staged_skip A _ _ _ inb inb' h hq f d 0 hs

end Cert.FfnIdeal.Run

end
-- ==== Proof.Ffn.RunA.lean ====
/- The feed-forward body at the first grid point: its run, with the two kept matrices and the output block named. -/
module

public import proofs.«01_k».proof.Proof.Ffn.Weights

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1504000 in set_option sl_exec.dmaWindow true in set_option sl_exec.dmaWindowSet true in
/-- The body at the first point: its sixteen transfers leave the two narrowed matrices in the scratch, and its output block is
    `tileOut` of the input blocks and of them. -/
theorem kernelRun0_A (c : Dev nD) (i : grid0.Coords) (arg1 : Memref sig .tc .vmem S1024x1024 .f32) (harg1 : arg1.IsWhole) (arg2 : Memref sig .tc .vmem S2x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x4096 .bf16) (harg7 : arg7.IsWhole) (arg8 : Memref sig .tc .vmem S4096x1024 .bf16) (harg8 : arg8.IsWhole) (alloca_r0 : Memref sig .tc .vmem S2x128x4096 .f32) (halloca_r0 : alloca_r0.IsWhole) (alloca_r1 : Memref sig .tc .vmem S2x512x1024 .f32) (halloca_r1 : alloca_r1.IsWhole) (hc0 : cond0_0 i)
    (x0 : Vec F S1024x1024 .f32) (x1 : Vec F S2x1024 .f32) (x2 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare (tileOut x0 x1 x2 (W1 fh0) (W2 fh1)) ∗ owns (c : Thread nD τ) arg7 fullShare (W1 fh0) ∗ owns (c : Thread nD τ) arg8 fullShare (W2 fh1) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
    intro W K
    simp only [cc0_ffn_eq_skeleton]; unfold cc0_ffn_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, HW, Hk⟩
    obtain rfl := harg1.eq_unread hf0; obtain rfl := harg2.eq_unread hf1; obtain rfl := harg5.eq_unread hf2
    sl_exec (disch := first | sl_exact hc0)
    sl_step
    have hp1 : ∀ p ∈ kernelRun0_A.sl.HS0_8 c alloca_r0 fh0 fs2, ∀ x, p.2 x = W1 fh0 (p.1.emb x) := by
      unfold kernelRun0_A.sl.HS0_8
      simp only [List.forall_mem_cons]
      refine ⟨piece1 fh0 896 _ (by decide) _ (by unfold kernelRun0_A.sl.v209_r0; exact (hit1 alloca_r0 1 896 _ _ _ (fun _ => rfl) _ squeezes_S1x128x4096_S128x4096 _ fh0 _ rfl)),
        piece1 fh0 768 _ (by decide) _ (by unfold kernelRun0_A.sl.v197_r0; exact (skip1 alloca_r0 0 1 (by decide) _ _ _ _ _ _).trans (hit1 alloca_r0 0 768 _ _ _ (fun _ => rfl) _ squeezes_S1x128x4096_S128x4096 _ fh0 _ rfl)),
        piece1 fh0 640 _ (by decide) _ (by unfold kernelRun0_A.sl.v179_r0; exact (skip1 alloca_r0 1 0 (by decide) _ _ _ _ _ _).trans (hit1 alloca_r0 1 640 _ _ _ (fun _ => rfl) _ squeezes_S1x128x4096_S128x4096 _ fh0 _ rfl)),
        piece1 fh0 512 _ (by decide) _ (by unfold kernelRun0_A.sl.v161_r0; exact (skip1 alloca_r0 0 1 (by decide) _ _ _ _ _ _).trans (hit1 alloca_r0 0 512 _ _ _ (fun _ => rfl) _ squeezes_S1x128x4096_S128x4096 _ fh0 _ rfl)),
        piece1 fh0 384 _ (by decide) _ (by unfold kernelRun0_A.sl.v143_r0; exact (skip1 alloca_r0 1 0 (by decide) _ _ _ _ _ _).trans (hit1 alloca_r0 1 384 _ _ _ (fun _ => rfl) _ squeezes_S1x128x4096_S128x4096 _ fh0 _ rfl)),
        piece1 fh0 256 _ (by decide) _ (by unfold kernelRun0_A.sl.v125_r0; exact (skip1 alloca_r0 0 1 (by decide) _ _ _ _ _ _).trans (hit1 alloca_r0 0 256 _ _ _ (fun _ => rfl) _ squeezes_S1x128x4096_S128x4096 _ fh0 _ rfl)),
        piece1 fh0 128 _ (by decide) _ (by unfold kernelRun0_A.sl.v107_r0; exact (skip1 alloca_r0 1 0 (by decide) _ _ _ _ _ _).trans (hit1 alloca_r0 1 128 _ _ _ (fun _ => rfl) _ squeezes_S1x128x4096_S128x4096 _ fh0 _ rfl)),
        piece1 fh0 0 _ (by decide) _ (by unfold kernelRun0_A.sl.v89_r0; exact (skip1 alloca_r0 0 1 (by decide) _ _ _ _ _ _).trans (hit1 alloca_r0 0 0 _ _ _ (fun _ => rfl) _ squeezes_S1x128x4096_S128x4096 _ fh0 _ rfl)), fun _ h => absurd h List.not_mem_nil⟩
    have hm1 : ∀ y, ∃ p ∈ kernelRun0_A.sl.HS0_8 c alloca_r0 fh0 fs2, y ∈ p.1.set := by
      intro y
      unfold kernelRun0_A.sl.HS0_8
      simp only [List.exists_mem_cons_iff]
      have hy : (y 0).val < 1024 := (y 0).isLt
      by_cases h7 : 896 ≤ (y 0).val
      · exact Or.inl (mem_chunk1 y 896 _ (by omega) (by omega))
      refine Or.inr ?_
      by_cases h6 : 768 ≤ (y 0).val
      · exact Or.inl (mem_chunk1 y 768 _ (by omega) (by omega))
      refine Or.inr ?_
      by_cases h5 : 640 ≤ (y 0).val
      · exact Or.inl (mem_chunk1 y 640 _ (by omega) (by omega))
      refine Or.inr ?_
      by_cases h4 : 512 ≤ (y 0).val
      · exact Or.inl (mem_chunk1 y 512 _ (by omega) (by omega))
      refine Or.inr ?_
      by_cases h3 : 384 ≤ (y 0).val
      · exact Or.inl (mem_chunk1 y 384 _ (by omega) (by omega))
      refine Or.inr ?_
      by_cases h2 : 256 ≤ (y 0).val
      · exact Or.inl (mem_chunk1 y 256 _ (by omega) (by omega))
      refine Or.inr ?_
      by_cases h1 : 128 ≤ (y 0).val
      · exact Or.inl (mem_chunk1 y 128 _ (by omega) (by omega))
      refine Or.inr ?_
      exact Or.inl (mem_chunk1 y 0 _ (by omega) (by omega))
    have hc1 : View.canon (kernelRun0_A.sl.HS0_8 c alloca_r0 fh0 fs2) = W1 fh0 :=
      funext fun y => View.canon_apply_of_pieces (W1 fh0) _ hp1 y (hm1 y)
    have hp2 : ∀ p ∈ kernelRun0_A.sl.HS1_8 c alloca_r1 fh1 fs3, ∀ x, p.2 x = W2 fh1 (p.1.emb x) := by
      unfold kernelRun0_A.sl.HS1_8
      simp only [List.forall_mem_cons]
      refine ⟨piece2 fh1 3584 _ (by decide) _ (by unfold kernelRun0_A.sl.v209_r1; exact (hit2 alloca_r1 1 3584 _ _ _ (fun _ => rfl) _ squeezes_S1x512x1024_S512x1024 _ fh1 _ rfl)),
        piece2 fh1 3072 _ (by decide) _ (by unfold kernelRun0_A.sl.v197_r1; exact (skip2 alloca_r1 0 1 (by decide) _ _ _ _ _ _).trans (hit2 alloca_r1 0 3072 _ _ _ (fun _ => rfl) _ squeezes_S1x512x1024_S512x1024 _ fh1 _ rfl)),
        piece2 fh1 2560 _ (by decide) _ (by unfold kernelRun0_A.sl.v179_r1; exact (skip2 alloca_r1 1 0 (by decide) _ _ _ _ _ _).trans (hit2 alloca_r1 1 2560 _ _ _ (fun _ => rfl) _ squeezes_S1x512x1024_S512x1024 _ fh1 _ rfl)),
        piece2 fh1 2048 _ (by decide) _ (by unfold kernelRun0_A.sl.v161_r1; exact (skip2 alloca_r1 0 1 (by decide) _ _ _ _ _ _).trans (hit2 alloca_r1 0 2048 _ _ _ (fun _ => rfl) _ squeezes_S1x512x1024_S512x1024 _ fh1 _ rfl)),
        piece2 fh1 1536 _ (by decide) _ (by unfold kernelRun0_A.sl.v143_r1; exact (skip2 alloca_r1 1 0 (by decide) _ _ _ _ _ _).trans (hit2 alloca_r1 1 1536 _ _ _ (fun _ => rfl) _ squeezes_S1x512x1024_S512x1024 _ fh1 _ rfl)),
        piece2 fh1 1024 _ (by decide) _ (by unfold kernelRun0_A.sl.v125_r1; exact (skip2 alloca_r1 0 1 (by decide) _ _ _ _ _ _).trans (hit2 alloca_r1 0 1024 _ _ _ (fun _ => rfl) _ squeezes_S1x512x1024_S512x1024 _ fh1 _ rfl)),
        piece2 fh1 512 _ (by decide) _ (by unfold kernelRun0_A.sl.v107_r1; exact (skip2 alloca_r1 1 0 (by decide) _ _ _ _ _ _).trans (hit2 alloca_r1 1 512 _ _ _ (fun _ => rfl) _ squeezes_S1x512x1024_S512x1024 _ fh1 _ rfl)),
        piece2 fh1 0 _ (by decide) _ (by unfold kernelRun0_A.sl.v89_r1; exact (skip2 alloca_r1 0 1 (by decide) _ _ _ _ _ _).trans (hit2 alloca_r1 0 0 _ _ _ (fun _ => rfl) _ squeezes_S1x512x1024_S512x1024 _ fh1 _ rfl)), fun _ h => absurd h List.not_mem_nil⟩
    have hm2 : ∀ y, ∃ p ∈ kernelRun0_A.sl.HS1_8 c alloca_r1 fh1 fs3, y ∈ p.1.set := by
      intro y
      unfold kernelRun0_A.sl.HS1_8
      simp only [List.exists_mem_cons_iff]
      have hy : (y 0).val < 4096 := (y 0).isLt
      by_cases h7 : 3584 ≤ (y 0).val
      · exact Or.inl (mem_chunk2 y 3584 _ (by omega) (by omega))
      refine Or.inr ?_
      by_cases h6 : 3072 ≤ (y 0).val
      · exact Or.inl (mem_chunk2 y 3072 _ (by omega) (by omega))
      refine Or.inr ?_
      by_cases h5 : 2560 ≤ (y 0).val
      · exact Or.inl (mem_chunk2 y 2560 _ (by omega) (by omega))
      refine Or.inr ?_
      by_cases h4 : 2048 ≤ (y 0).val
      · exact Or.inl (mem_chunk2 y 2048 _ (by omega) (by omega))
      refine Or.inr ?_
      by_cases h3 : 1536 ≤ (y 0).val
      · exact Or.inl (mem_chunk2 y 1536 _ (by omega) (by omega))
      refine Or.inr ?_
      by_cases h2 : 1024 ≤ (y 0).val
      · exact Or.inl (mem_chunk2 y 1024 _ (by omega) (by omega))
      refine Or.inr ?_
      by_cases h1 : 512 ≤ (y 0).val
      · exact Or.inl (mem_chunk2 y 512 _ (by omega) (by omega))
      refine Or.inr ?_
      exact Or.inl (mem_chunk2 y 0 _ (by omega) (by omega))
    have hc2 : View.canon (kernelRun0_A.sl.HS1_8 c alloca_r1 fh1 fs3) = W2 fh1 :=
      funext fun y => View.canon_apply_of_pieces (W2 fh1) _ hp2 y (hm2 y)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; swap; · iexact H3
      ipureintro
      refine (View.read_writes_full _ _ _ _ _).trans ?_
      exact tileOut_of ((View.readAt_full _ _ _).trans hf0) ((readAt_gain _ _ _).trans (congrArg gain hf1)) ((View.readAt_full _ _ _).trans hf2)
        (readCov_cols _ _ _ hc1 0 (by omega) _) (readCov_rows _ _ _ hc2 0 (by omega) _)
        (readCov_cols _ _ _ hc1 1024 (by omega) _) (readCov_rows _ _ _ hc2 1024 (by omega) _)
        (readCov_cols _ _ _ hc1 2048 (by omega) _) (readCov_rows _ _ _ hc2 2048 (by omega) _)
        (readCov_cols _ _ _ hc1 3072 (by omega) _) (readCov_rows _ _ _ hc2 3072 (by omega) _)
    isplitl [HS0]
    · iexists _; isplitr; swap; · iexact HS0
      ipureintro
      exact (View.read_writes_eq_canon _ _ _ hm1).trans hc1
    isplitl [HS1]
    · iexists _; isplitr; swap; · iexact HS1
      ipureintro
      exact (View.read_writes_eq_canon _ _ _ hm2).trans hc2
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.FfnIdeal.Run

end
-- ==== Proof.Ffn.RunB.lean ====
/- The feed-forward body at a later grid point: its run, with the output block named. -/
module

public import proofs.«01_k».proof.Proof.Ffn.Weights

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body at a later point: with the input blocks staged and the two kept matrices in the scratch, it leaves `tileOut` of them
    in the output block and everything else as it was. -/
theorem kernelRun0_B (c : Dev nD) (i : grid0.Coords) (arg1 : Memref sig .tc .vmem S1024x1024 .f32) (harg1 : arg1.IsWhole) (arg2 : Memref sig .tc .vmem S2x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x4096 .bf16) (harg7 : arg7.IsWhole) (arg8 : Memref sig .tc .vmem S4096x1024 .bf16) (harg8 : arg8.IsWhole) (alloca_r0 : Memref sig .tc .vmem S2x128x4096 .f32) (halloca_r0 : alloca_r0.IsWhole) (alloca_r1 : Memref sig .tc .vmem S2x512x1024 .f32) (halloca_r1 : alloca_r1.IsWhole) (hc0 : ¬cond0_0 i)
    (x0 : Vec F S1024x1024 .f32) (x1 : Vec F S2x1024 .f32) (x2 : Vec F S1x1024 .f32) (w1 : Vec F S1024x4096 .bf16) (w2 : Vec F S4096x1024 .bf16) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ owns (c : Thread nD τ) arg7 fullShare w1 ∗ owns (c : Thread nD τ) arg8 fullShare w2 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare (tileOut x0 x1 x2 w1 w2) ∗ owns (c : Thread nD τ) arg7 fullShare w1 ∗ owns (c : Thread nD τ) arg8 fullShare w2 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
    intro W K
    simp only [cc0_ffn_eq_skeleton]; unfold cc0_ffn_skel
    simp only [k0_part11_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, Hq0, Hq1, Hq2, Hq3, Hh0, Hh1, HW, Hk⟩
    obtain rfl := harg1.eq_unread hf0; obtain rfl := harg2.eq_unread hf1; obtain rfl := harg5.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; swap; · iexact H3
      ipureintro
      refine (View.read_writes_full _ _ _ _ _).trans ?_
      exact tileOut_of ((View.readAt_full _ _ _).trans hf0) ((readAt_gain _ _ _).trans (congrArg gain hf1)) ((View.readAt_full _ _ _).trans hf2)
        ((readAt_cols _ _ 0 (by omega) _).trans (by rw [hfs0])) ((readAt_rows _ _ 0 (by omega) _).trans (by rw [hfs1]))
        ((readAt_cols _ _ 1024 (by omega) _).trans (by rw [hfs0])) ((readAt_rows _ _ 1024 (by omega) _).trans (by rw [hfs1]))
        ((readAt_cols _ _ 2048 (by omega) _).trans (by rw [hfs0])) ((readAt_rows _ _ 2048 (by omega) _).trans (by rw [hfs1]))
        ((readAt_cols _ _ 3072 (by omega) _).trans (by rw [hfs0])) ((readAt_rows _ _ 3072 (by omega) _).trans (by rw [hfs1]))
    isplitl [HS0]
    · iexists _; isplitr; swap; · iexact HS0
      ipureintro; exact hfs0
    isplitl [HS1]
    · iexists _; isplitr; swap; · iexact HS1
      ipureintro; exact hfs1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.FfnIdeal.Run

end
-- ==== Proof.Ffn.Frame.lean ====
/- The feed-forward call's run: what its scratch and its output block hold point by point, the body's obligation, the launch and
   the argument arrays after it. -/
module

public import proofs.«01_k».proof.Proof.Ffn.RunA
public import proofs.«01_k».proof.Proof.Ffn.RunB
public import Idealize.ShloMosaic.Lib.Claim

@[expose] public section

set_option maxRecDepth 16384

noncomputable section

namespace Cert.FfnIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant from the second point on: as at the launch, with the two kept matrices named. -/
def PhiN (c : Dev nD) : sProp 𝕄 :=
  iprop(iprop(owns (c : Thread nD τ) scM0_0 fullShare (W1 (V m c main_arg2)) ∗ owns (c : Thread nD τ) scM0_1 fullShare (W2 (V m c main_arg3)) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg2) ∗ hbPt0 c hbM0_1 (V m c main_arg3)))

/-- Forgetting the names. -/
theorem PhiN_forget (c : Dev nD) : PhiN m c ⊢ (Pipeline.ΦD osem0 spec0 H0 (V m) c : sProp 𝕄) := by
  rw [PhiD0_eq]
  unfold PhiN
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq]; · iexact Hq
  iexact Hh

/-- The invariant at each point. -/
def Phi (c : Dev nD) (t : Fin (cfg0.N + 1)) : sProp 𝕄 :=
  if t.val = 0 then Pipeline.ΦD osem0 spec0 H0 (V m) c else PhiN m c

theorem Phi_zero (c : Dev nD) (t : Fin (cfg0.N + 1)) (h : t.val = 0) : Phi m c t = Pipeline.ΦD osem0 spec0 H0 (V m) c := if_pos h
theorem Phi_pos (c : Dev nD) (t : Fin (cfg0.N + 1)) (h : ¬ t.val = 0) : Phi m c t = PhiN m c := if_neg h

/-- What the body leaves in its output block at point `t`. -/
def outAt (c : Dev nD) (t : Fin cfg0.N) : Vec F S1024x1024 .f32 :=
  tileOut (iblk m c 0 t) (iblk m c 1 t) (iblk m c 2 t) (W1 (V m c main_arg2)) (W2 (V m c main_arg3))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the first by its run there, a later one by its own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  unfold Dat.owesAt Pipeline.owesWithin outAt
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · rw [show (dats m 0 c).Φ t.castSucc = Pipeline.ΦD osem0 spec0 H0 (V m) c from Phi_zero m c t.castSucc (by show t.val = 0; omega), PhiD0_eq]
    rw [show (dats m 0 c).Φ t.succ = PhiN m c from Phi_pos m c t.succ (by rw [Fin.val_succ]; omega)]
    unfold PhiN
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩⟩
    iapply ((kernelRun0_A c (grid0.coords t) _ _ _ _ _ _ _ _ _ _ _ _ _ _ _ _ ((hcond0_0 t).mpr h0) (iblk m c 0 t) (iblk m c 1 t) (iblk m c 2 t) (V m c main_arg2) (V m c main_arg3)) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · rw [show (dats m 0 c).Φ t.castSucc = PhiN m c from Phi_pos m c t.castSucc (by show ¬ t.val = 0; omega)]
    rw [show (dats m 0 c).Φ t.succ = PhiN m c from Phi_pos m c t.succ (by rw [Fin.val_succ]; omega)]
    unfold PhiN
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩⟩
    iapply ((kernelRun0_B c (grid0.coords t) _ _ _ _ _ _ _ _ _ _ _ _ _ _ _ _ (fun h => h0 ((hcond0_0 t).mp h)) (iblk m c 0 t) (iblk m c 1 t) (iblk m c 2 t) (W1 (V m c main_arg2)) (W2 (V m c main_arg3)) (V m c main_arg2) (V m c main_arg3)) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl)
    (hout := fun c => (show (dats m 0 c).Φ (Fin.last cfg0.N) ⊢ _ from by
      rw [show (dats m 0 c).Φ (Fin.last cfg0.N) = PhiN m c from Phi_pos m c (Fin.last cfg0.N) (by show ¬ cfg0.N = 0; rw [show cfg0.N = 16 from N_0]; omega)]
      exact PhiN_forget m c))

/-- The frame run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame at any float arithmetic: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnIdeal.Run

end
-- ==== Proof.Ffn.Pure.lean ====
/- The feed-forward tile and the reference, each read at an index as the same expression in the arguments' elements. -/
module

public import proofs.«01_k».proof.Proof.Ffn.Weights
public import proofs.«01_k».proof.Proof.Gen.FfnReferenceIdeal.Run
public import Idealize.ShloMosaic.Lib.Pointwise

@[expose] public section

set_option maxRecDepth 16384

noncomputable section

namespace Cert.FfnPure

open Idealize.ShloMosaic Idealize.ShloMosaic.TcCoe

/-- A row divided by the root of its mean square, times the gains. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- The squared rectified up-projection of a row. -/
def hid (h : Fin 1024 → EReal) (w1 : Fin 1024 → Fin 4096 → EReal) (j : Fin 4096) : EReal :=
  max (∑ k, h k * w1 k j) 0 * max (∑ k, h k * w1 k j) 0

/-- The layer on a row: the residual and the down-projection of its hidden units, normalised. -/
def layer (x g : Fin 1024 → EReal) (gf : Fin 1024 → EReal) (w1 : Fin 1024 → Fin 4096 → EReal) (w2 : Fin 4096 → Fin 1024 → EReal) : Fin 1024 → EReal :=
  rms (fun d => x d + ∑ j, hid (rms x g) w1 j * w2 j d) gf

section Kernel
open Cert.FfnIdeal Cert.FfnIdeal.Gen Cert.FfnIdeal.Run

theorem pay19 (x : Vec Ideal S1024x1024 .f32) (g : Vec Ideal S1x1024 .f32) (r k : Fin 1024) :
    k0_pay19 x g (ix2 r k) = rms (fun l => x (ix2 r l)) (fun l => g (ix2 0 l)) k := by
  pointwise [k0_pay19, k0_pay18, rms]

theorem pay20 (x : Vec Ideal S1024x1024 .f32) (g : Vec Ideal S1x1024 .f32) (a b : Vec Ideal S1024x1024 .bf16) (r d : Fin 1024) :
    k0_pay20 x g a b (ix2 r d) = x (ix2 r d) + ∑ t : Fin 1024, max (∑ k : Fin 1024, rms (fun l => x (ix2 r l)) (fun l => g (ix2 0 l)) k * a (ix2 k t)) 0
      * max (∑ k : Fin 1024, rms (fun l => x (ix2 r l)) (fun l => g (ix2 0 l)) k * a (ix2 k t)) 0 * b (ix2 t d) := by
  pointwise [k0_pay20, k0_pay18, pay19]

theorem pay21 (x : Vec Ideal S1024x1024 .f32) (g : Vec Ideal S1x1024 .f32) (a : Vec Ideal S1024x1024 .bf16) (r t : Fin 1024) :
    k0_pay21 x g a (ix2 r t) = max (∑ k : Fin 1024, rms (fun l => x (ix2 r l)) (fun l => g (ix2 0 l)) k * a (ix2 k t)) 0
      * max (∑ k : Fin 1024, rms (fun l => x (ix2 r l)) (fun l => g (ix2 0 l)) k * a (ix2 k t)) 0 := by
  pointwise [k0_pay21, pay19]

/-- The hidden units' sum, a thousand at a time. -/
theorem sum_hid (h : Fin 1024 → EReal) (w1 : Vec Ideal S1024x4096 .bf16) (w2 : Vec Ideal S4096x1024 .bf16) (d : Fin 1024) :
    (∑ j, hid h (fun k j => w1 (ix2 k j)) j * w2 (ix2 j d))
      = (∑ t : Fin 1024, max (∑ k : Fin 1024, h k * cols w1 0 (by omega) (ix2 k t)) 0 * max (∑ k : Fin 1024, h k * cols w1 0 (by omega) (ix2 k t)) 0 * rows w2 0 (by omega) (ix2 t d))
        + (∑ t : Fin 1024, max (∑ k : Fin 1024, h k * cols w1 1024 (by omega) (ix2 k t)) 0 * max (∑ k : Fin 1024, h k * cols w1 1024 (by omega) (ix2 k t)) 0 * rows w2 1024 (by omega) (ix2 t d))
        + (∑ t : Fin 1024, max (∑ k : Fin 1024, h k * cols w1 2048 (by omega) (ix2 k t)) 0 * max (∑ k : Fin 1024, h k * cols w1 2048 (by omega) (ix2 k t)) 0 * rows w2 2048 (by omega) (ix2 t d))
        + (∑ t : Fin 1024, max (∑ k : Fin 1024, h k * cols w1 3072 (by omega) (ix2 k t)) 0 * max (∑ k : Fin 1024, h k * cols w1 3072 (by omega) (ix2 k t)) 0 * rows w2 3072 (by omega) (ix2 t d)) := by
  rw [Fin.sum_univ_tiles 4 1024 rfl, Fin.sum_univ_four]
  rfl

theorem tileOut_at (x : Vec Ideal S1024x1024 .f32) (g : Vec Ideal S2x1024 .f32) (gf : Vec Ideal S1x1024 .f32)
    (w1 : Vec Ideal S1024x4096 .bf16) (w2 : Vec Ideal S4096x1024 .bf16) (r d : Fin 1024) :
    tileOut x g gf w1 w2 (ix2 r d)
      = layer (fun k => x (ix2 r k)) (fun k => g (ix2 1 k)) (fun k => gf (ix2 0 k)) (fun k j => w1 (ix2 k j)) (fun j l => w2 (ix2 j l)) d := by
  have hgain : ∀ l : Fin 1024, gain g (ix2 0 l) = g (ix2 1 l) := fun l => rfl
  unfold layer
  simp only [sum_hid]
  pointwise [tileOut, k0_pay1, pay19, pay20, pay21, rms, hgain, add_assoc]

end Kernel

section Ref
open Cert.FfnReferenceIdeal Cert.FfnReferenceIdeal.Gen

/-- The reference's normalisation of every row. -/
def rNorm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The reference's hidden units. -/
def rHid (h : FVec Ideal S2x8192x1024 .f32) (w : FVec Ideal S1024x4096 .f32) : FVec Ideal S2x8192x4096 .f32 :=
  mulf (maximumf (Host.dotGeneral dot_S2x8192x1024_S1024x4096_S2x8192x4096_2_0_01_1_n_n none h w) (broadcastInDim S2x8192x4096 ![] bcast_S_S2x8192x4096 (constant S_ .f32 0x00000000#32)))
    (maximumf (Host.dotGeneral dot_S2x8192x1024_S1024x4096_S2x8192x4096_2_0_01_1_n_n none h w) (broadcastInDim S2x8192x4096 ![] bcast_S_S2x8192x4096 (constant S_ .f32 0x00000000#32)))

/-- The reference before its last normalisation. -/
def rRes (x : FVec Ideal S2x8192x1024 .f32) (g : FVec Ideal S2x1024 .f32) (w1 : FVec Ideal S2x1024x4096 .f32) (w2 : FVec Ideal S2x4096x1024 .f32) : FVec Ideal S2x8192x1024 .f32 :=
  addf x (Host.dotGeneral dot_S2x8192x4096_S4096x1024_S2x8192x1024_2_0_01_1_n_n none
    (rHid (rNorm x (shapeCast _ (extractStridedSlice S1x1024 ![1, 0] g slices_S2x1024_S1x1024_1_0) shapeCasts_S1x1024_S1024))
      (shapeCast _ (extractStridedSlice S1x1024x4096 ![1, 0, 0] w1 slices_S2x1024x4096_S1x1024x4096_1_0_0) shapeCasts_S1x1024x4096_S1024x4096))
    (shapeCast _ (extractStridedSlice S1x4096x1024 ![1, 0, 0] w2 slices_S2x4096x1024_S1x4096x1024_1_0_0) shapeCasts_S1x4096x1024_S4096x1024))

/-- The reference's result. -/
def rOut (x : FVec Ideal S2x8192x1024 .f32) (g : FVec Ideal S2x1024 .f32) (w1 : FVec Ideal S2x1024x4096 .f32) (w2 : FVec Ideal S2x4096x1024 .f32) (gf : FVec Ideal S1024 .f32) : FVec Ideal S16384x1024 .f32 :=
  shapeCast _ (rNorm (rRes x g w1 w2) gf) shapeCasts_S2x8192x1024_S16384x1024

theorem res_eq (m : (ℓ : Loc nD τ sig) → Buf (Elt Ideal) ℓ) (c : Dev nD) :
    Cert.FfnReferenceIdeal.Value.res_out0 m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem rNorm_at (x : FVec Ideal S2x8192x1024 .f32) (g : FVec Ideal S1024 .f32) (b : Fin 2) (s : Fin 8192) (k : Fin 1024) :
    rNorm x g (ix3 b s k) = rms (fun l => x (ix3 b s l)) (fun l => g (ix1 l)) k := by
  pointwise [rNorm, rms]

theorem rHid_at (h : FVec Ideal S2x8192x1024 .f32) (w : FVec Ideal S1024x4096 .f32) (b : Fin 2) (s : Fin 8192) (j : Fin 4096) :
    rHid h w (ix3 b s j) = hid (fun l => h (ix3 b s l)) (fun k j => w (ix2 k j)) j := by
  pointwise [rHid, hid]

theorem rRes_at (x : FVec Ideal S2x8192x1024 .f32) (g : FVec Ideal S2x1024 .f32) (w1 : FVec Ideal S2x1024x4096 .f32) (w2 : FVec Ideal S2x4096x1024 .f32) (b : Fin 2) (s : Fin 8192) (d : Fin 1024) :
    rRes x g w1 w2 (ix3 b s d) = x (ix3 b s d)
      + ∑ j, hid (rms (fun l => x (ix3 b s l)) (fun l => g (ix2 1 l))) (fun k j => w1 (ix3 1 k j)) j * w2 (ix3 1 j d) := by
  pointwise [rRes, rHid_at, rNorm_at]

theorem rOut_at (x : FVec Ideal S2x8192x1024 .f32) (g : FVec Ideal S2x1024 .f32) (w1 : FVec Ideal S2x1024x4096 .f32) (w2 : FVec Ideal S2x4096x1024 .f32) (gf : FVec Ideal S1024 .f32) (n : Fin 16384) (d : Fin 1024) :
    rOut x g w1 w2 gf (ix2 n d)
      = layer (fun k => x (ix3 ⟨n.val / 8192, by omega⟩ ⟨n.val % 8192, by omega⟩ k)) (fun k => g (ix2 1 k)) (fun k => gf (ix1 k)) (fun k j => w1 (ix3 1 k j)) (fun j l => w2 (ix3 1 j l)) d := by
  unfold layer
  pointwise [rOut, rNorm_at, rRes_at]

end Ref

end Cert.FfnPure

end
-- ==== Proof.Ffn.Value.lean ====
/- The feed-forward call's result array: block by block, the reference's result. -/
module

public import proofs.«01_k».proof.Proof.Ffn.Frame
public import proofs.«01_k».proof.Proof.Ffn.Pure
public import Idealize.ShloMosaic.Lib.Pipeline.ValueKit

@[expose] public section

set_option maxRecDepth 16384

noncomputable section

namespace Cert.FfnIdeal.Result

open Idealize.ShloMosaic Idealize.ShloMosaic.TcCoe Idealize.SL.Sem
open Idealize.ShloMosaic.Pipeline (Dat)
open Cert.FfnIdeal Cert.FfnIdeal.Gen Cert.FfnIdeal.Run Cert.FfnPure

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The reference's result over this program's arguments. -/
def Ref (c : Dev nD) : FVec Ideal S16384x1024 .f32 :=
  rOut (m ((c : Thread nD τ).loc main_arg0)) (m ((c : Thread nD τ).loc main_arg1)) (m ((c : Thread nD τ).loc main_arg2)) (m ((c : Thread nD τ).loc main_arg3)) (m ((c : Thread nD τ).loc main_arg4))

theorem V_v1 (c : Dev nD) : V m c main_v1 = shapeCast S16384x1024 (m ((c : Thread nD τ).loc main_arg0) : FVec Ideal S2x8192x1024 .f32) shapeCasts_S2x8192x1024_S16384x1024 := by
  unfold V hostOps0; after_results_simp <;> rfl

theorem V_v0 (c : Dev nD) : V m c main_v0 = shapeCast S1x1024 (m ((c : Thread nD τ).loc main_arg4) : FVec Ideal S1024 .f32) shapeCasts_S1024_S1x1024 := by
  unfold V hostOps0; after_results_simp <;> rfl

/-- The row of the whole array that point `t`'s block holds as its row `r`. -/
def row (t : Fin cfg0.N) (r : Fin 1024) : Fin 16384 :=
  ⟨t.val * 1024 + r.val, by have h : t.val < 16 := lt_of_lt_of_eq t.isLt (show cfg0.N = 16 from N_0); omega⟩

/-- The flattened batch at a row. -/
theorem rows_at (X : FVec Ideal S2x8192x1024 .f32) (n : Fin 16384) (k : Fin 1024) :
    shapeCast S16384x1024 X shapeCasts_S2x8192x1024_S16384x1024 (ix2 n k) = X (ix3 ⟨n.val / 8192, by omega⟩ ⟨n.val % 8192, by omega⟩ k) := by
  pointwise []

theorem blk0 (c : Dev nD) (t : Fin cfg0.N) (r k : Fin 1024) :
    (iblk m c 0 t : Vec Ideal S1024x1024 .f32) (ix2 r k) = (m ((c : Thread nD τ).loc main_arg0) : FVec Ideal S2x8192x1024 .f32)
      (ix3 ⟨(row t r).val / 8192, by have := (row t r).isLt; omega⟩ ⟨(row t r).val % 8192, by omega⟩ k) := by
  have e : (iblk m c 0 t : Vec Ideal S1024x1024 .f32) (ix2 r k) = (V m c main_v1 : FVec Ideal S16384x1024 .f32) (ix2 (row t r) k) := by
    blk_ext [iblk, idx t, row]
  rw [e, V_v1]
  exact rows_at _ _ _

theorem blk1 (c : Dev nD) (t : Fin cfg0.N) (k : Fin 1024) :
    (iblk m c 1 t : Vec Ideal S2x1024 .f32) (ix2 1 k) = (m ((c : Thread nD τ).loc main_arg1) : FVec Ideal S2x1024 .f32) (ix2 1 k) := by
  blk_ext [iblk, V, idx t]

theorem blk2 (c : Dev nD) (t : Fin cfg0.N) (k : Fin 1024) :
    (iblk m c 2 t : Vec Ideal S1x1024 .f32) (ix2 0 k) = (m ((c : Thread nD τ).loc main_arg4) : FVec Ideal S1024 .f32) (ix1 k) := by
  have e : (iblk m c 2 t : Vec Ideal S1x1024 .f32) (ix2 0 k) = (V m c main_v0 : FVec Ideal S1x1024 .f32) (ix2 0 k) := by
    blk_ext [iblk, idx t]
  rw [e, V_v0]
  pointwise []

theorem point (c : Dev nD) (t : Fin cfg0.N) (y : S1024x1024.Idx) :
    outAt m c t y = Ref m c (((cfg0.win 3).blk t).view.emb y) := by
  have h : ∀ r d : Fin 1024, outAt m c t (ix2 r d) = Ref m c (((cfg0.win 3).blk t).view.emb (ix2 r d : S1024x1024.Idx)) := by
    intro r d
    have e : Ref m c (((cfg0.win 3).blk t).view.emb (ix2 r d : S1024x1024.Idx)) = Ref m c (ix2 (row t r) d) := by
      blk_ext [idx t, row]
    rw [e]
    unfold outAt Ref
    rw [tileOut_at, rOut_at]
    simp only [blk0, blk1, blk2]
    rw [V_main_arg2, V_main_arg3]
    rfl
  rw [eq_ix2 y]
  exact h _ _

theorem final (c : Dev nD) : (dats m 0 c).arrAt 3 (cfgs 0).N = Ref m c := by
  refine (dats m 0 c).arrAt_eq_of_covers 3 _ (by decide +kernel) fun t _ y => ?_
  blk_simp
  rw [after0_3]
  exact point m c t y

end Cert.FfnIdeal.Result

end
-- ==== Proof.Ffn.Same.lean ====
/- The feed-forward kernel and its idealization have the same text: their body tables are equal, so a run of the
   one is a run of the other. -/
module

public import proofs.«01_k».proof.Proof.Gen.Ffn
public import proofs.«01_k».proof.Proof.Gen.FfnIdeal

@[expose] public section

namespace Cert.FfnSame

open Idealize.ShloMosaic

variable {F : FTy → Type} [FloatOps F]

-- the two programs' signatures unfold to the same literals
set_option backward.isDefEq.respectTransparency.types false in
/-- The kernels' bodies are one body. -/
theorem defs₀_eq : Cert.Ffn.defs₀ (F := F) = Cert.FfnIdeal.defs₀ (F := F) := by
  refine congrArg Defs.onTc ?_
  funext l
  match l with
  | 0 => rfl

set_option backward.isDefEq.respectTransparency.types false in
/-- The two body tables, pipeline included. -/
theorem defs_eq : Cert.Ffn.defs (F := F) = Cert.FfnIdeal.defs (F := F) :=
  congrArg (Pipeline.defs (Cert.Ffn.pcfgs (F := F))) defs₀_eq

end Cert.FfnSame

end
-- ==== Proof.FfnFirst.Runs.lean ====
/- What the first layer's feed-forward call's two runs share: the launch facts over the resource algebra with transfers, the branch
   condition in closed form, the names of the scratch and of the operands left in HBM, and the launch invariant listed. -/
module

public import proofs.«01_k».proof.Proof.Gen.FfnFirstIdeal.Frame
public import proofs.«01_k».proof.Proof.Gen.FfnFirstIdeal.Skeleton

@[expose] public section

set_option maxRecDepth 16384

noncomputable section

namespace Cert.FfnFirstIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFirstIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x4096 .bf16 := Memref.whole cc0_scratch0
abbrev scM0_1 : Memref sig .tc .vmem S4096x1024 .bf16 := Memref.whole cc0_scratch1
abbrev scM0_2 : Memref sig .tc .vmem S2x128x4096 .f32 := Memref.whole cc0_scoped0
abbrev scM0_3 : Memref sig .tc .vmem S2x512x1024 .f32 := Memref.whole cc0_scoped2
/-- The operands left in HBM that the body copies into scratch itself, whole. -/
abbrev hbM0_0 : Memref sig .tc .hbm S2x1024x4096 .f32 := Memref.whole main_arg2
abbrev hbM0_1 : Memref sig .tc .hbm S2x4096x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, scM0_2, scM0_3, owns_whole]; try rfl

end Cert.FfnFirstIdeal.Run

end
-- ==== Proof.Lib.Staged.lean ====
/- What a load of a staging slot reads after transfers through squeezed slices of it. -/
module

public import Idealize.ShloMosaic.Lib.Pipeline.FrameBody

@[expose] public section

noncomputable section

namespace Cert.Staged

open Idealize.ShloMosaic Idealize.SL.Sem

section Staged
variable {sg : RefSig} {κ : Kind} {sp : Space} {Val : EltTy → Type} {e : EltTy} {s s' : Shape}

/-- A load of the slot a transfer was last made into (the slot addressed by a squeezed slice) reads what the transfer
    read, when that was itself a squeezed slice: the slice of the source, with its unit axis. -/
theorem staged_hit {κ' : Kind} {sp' : Space} {t : Shape} (A : Memref sg κ sp s e) (M : Memref sg κ' sp' t e)
    (off : Fin s.rank → ℕ) (size : Fin s.rank → ℕ) (inb : ∀ a, off a + size a ≤ s.size a)
    (r' : Rect t) (hr' : ∀ a, r'.stride a = 1) (hs : r'.shape = (Rect.unit off size inb).shape)
    (h : ∀ a, (Rect.unit off size inb).stride a = 1)
    (hq : (Rect.unit off size inb).shape.Squeezes s') (hq' : r'.shape.Squeezes s')
    (f : A.view.ty.Contents Val) (g : M.view.ty.Contents Val) (j : (Rect.unit off size inb).shape.Idx) :
    A.view.readAt Val (Rect.unit off size inb).toLoadRect
      (View.write Val ((A.slice (Rect.unit off size inb) h).squeeze s' hq).view f
        (((M.slice r' hr').squeeze s' hq').view.read Val g) Finset.univ) j
      = M.view.readAt Val r'.toLoadRect g (cast (congrArg Shape.Idx hs.symm) j) := by
  show A.view.read Val (View.write Val ((A.view.slice (Rect.unit off size inb)).reshape s' hq.numel_eq) f _ Finset.univ) ((Rect.unit off size inb).emb j) = _
  rw [View.write_reshape_univ]
  rw [View.read_slice_write_emb _ _ _ (Finset.mem_univ j)]
  show M.view.read Val g (r'.emb (Shape.reshapeEquiv hq'.numel_eq ((Shape.reshapeEquiv hq.numel_eq).symm j))) = M.view.read Val g (r'.emb _)
  congr 2
  generalize hR : (Rect.unit off size inb).shape = R at hs hq j
  subst hs
  exact Equiv.apply_symm_apply (Shape.reshapeEquiv hq.numel_eq) j

/-- A load of one slot does not see a transfer made into another. -/
theorem staged_skip (A : Memref sg κ sp s e)
    (off off' : Fin s.rank → ℕ) (size : Fin s.rank → ℕ) (inb : ∀ a, off a + size a ≤ s.size a) (inb' : ∀ a, off' a + size a ≤ s.size a)
    (h : ∀ a, (Rect.unit off' size inb').stride a = 1) (hq : (Rect.unit off' size inb').shape.Squeezes s')
    (f : A.view.ty.Contents Val) (d : s'.Idx → Val e) (a : Fin s.rank) (ha : off a + size a ≤ off' a ∨ off' a + size a ≤ off a) :
    A.view.readAt Val (Rect.unit off size inb).toLoadRect
      (View.write Val ((A.slice (Rect.unit off' size inb') h).squeeze s' hq).view f d Finset.univ)
      = A.view.readAt Val (Rect.unit off size inb).toLoadRect f := by
  funext j
  show A.view.read Val (View.write Val ((A.view.slice (Rect.unit off' size inb')).reshape s' hq.numel_eq) f _ Finset.univ) ((Rect.unit off size inb).emb j) = A.view.read Val f _
  rw [View.write_reshape_univ]
  refine View.read_slice_write_of_not_mem _ _ _ _ ?_
  rw [Rect.map_emb_univ, Rect.mem_set_unit]
  intro hall
  have h1 := hall a
  have h2 : ((Rect.unit off size inb).emb j a).val = off a + 1 * (j a).val := rfl
  have h3 : (j a).val < size a := (j a).isLt
  omega

end Staged

end Cert.Staged

end
-- ==== Proof.FfnFirst.Weights.lean ====
/- The first layer's feed-forward call's weights: what the first point's transfers through the two staging slots leave in the scratch, and
   the tile the body leaves as a function of its blocks and of that scratch. -/
module

public import proofs.«01_k».proof.Proof.FfnFirst.Runs
public import proofs.«01_k».proof.Proof.Lib.Staged
public import Idealize.ShloMosaic.Lib.Pointwise
public import Idealize.ShloMosaic.Lib.Pipeline.Value
public import Idealize.ShloMosaic.Lib.WritesUnit
public import Idealize.ShloMosaic.Lib.VecWindow

@[expose] public section

set_option maxRecDepth 16384

noncomputable section

namespace Cert.FfnFirstIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Staged
open Cert.FfnFirstIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the first point's transfers leave -/

/-- The up-projection's weights as the kernel keeps them: the first layer's, narrowed. -/
def W1 {c : Dev nD} (f : HbBuf0 (F := F) c hbM0_0) : Vec F S1024x4096 .bf16 :=
  truncf .bf16 (fun i => hbM0_0.view.read (Elt F) f (ix3 0 (i 0) (i 1)) : FVec F S1024x4096 .f32) bitsLt_bf16_f32

/-- The down-projection's weights as the kernel keeps them: the first layer's, narrowed. -/
def W2 {c : Dev nD} (f : HbBuf0 (F := F) c hbM0_1) : Vec F S4096x1024 .bf16 :=
  truncf .bf16 (fun i => hbM0_1.view.read (Elt F) f (ix3 0 (i 0) (i 1)) : FVec F S4096x1024 .f32) bitsLt_bf16_f32

/-- A thousand columns of the up-projection from column `o`. -/
def cols (w : Vec F S1024x4096 .bf16) (o : ℕ) (h : o + 1024 ≤ 4096) : Vec F S1024x1024 .bf16 :=
  fun i => w (ix2 (i 0) ⟨o + (i 1).val, lt_of_lt_of_le (Nat.add_lt_add_left (i 1).isLt o) h⟩)

/-- A thousand rows of the down-projection from row `o`. -/
def rows (w : Vec F S4096x1024 .bf16) (o : ℕ) (h : o + 1024 ≤ 4096) : Vec F S1024x1024 .bf16 :=
  fun i => w (ix2 ⟨o + (i 0).val, lt_of_lt_of_le (Nat.add_lt_add_left (i 0).isLt o) h⟩ (i 1))

/-- The first layer's gains. -/
def gain (g : Vec F S2x1024 .f32) : Vec F S1x1024 .f32 := fun i => g (ix2 0 (i 1))

/-- What the body leaves in its output block, from its input blocks and the two kept matrices. -/
def tileOut (x : Vec F S1024x1024 .f32) (g : Vec F S2x1024 .f32)
    (w1 : Vec F S1024x4096 .bf16) (w2 : Vec F S4096x1024 .bf16) : Vec F S1024x1024 .f32 :=
  k0_pay1 (k0_pay19 x (gain g)) (k0_pay20 x (gain g) (cols w1 0 (by omega)) (rows w2 0 (by omega)))
    (k0_pay21 x (gain g) (cols w1 1024 (by omega))) (rows w2 1024 (by omega)) (constant S1024x1024 .f32 0x00000000#32)
    (cols w1 2048 (by omega)) (rows w2 2048 (by omega)) (cols w1 3072 (by omega)) (rows w2 3072 (by omega))

theorem readAt_cols (v : View sig .tc .vmem S1024x4096 .bf16) (f : v.ty.Contents (Elt F)) (o : ℕ) (h : o + 1024 ≤ 4096)
    (inb : ∀ a, (![0, o] : Fin 2 → ℕ) a + (![1024, 1024] : Fin 2 → ℕ) a ≤ S1024x4096.size a) :
    v.readAt (Elt F) (Rect.unit (s := S1024x4096) ![0, o] ![1024, 1024] inb).toLoadRect f = cols (v.read (Elt F) f) o h := by
  funext j
  refine congrArg (v.read (Elt F) f) (funext fun a => Fin.ext ?_)
  fin_cases a
  · show 0 + 1 * (j 0).val = (j 0).val; omega
  · show o + 1 * (j 1).val = o + (j 1).val; omega

theorem readAt_rows (v : View sig .tc .vmem S4096x1024 .bf16) (f : v.ty.Contents (Elt F)) (o : ℕ) (h : o + 1024 ≤ 4096)
    (inb : ∀ a, (![o, 0] : Fin 2 → ℕ) a + (![1024, 1024] : Fin 2 → ℕ) a ≤ S4096x1024.size a) :
    v.readAt (Elt F) (Rect.unit (s := S4096x1024) ![o, 0] ![1024, 1024] inb).toLoadRect f = rows (v.read (Elt F) f) o h := by
  funext j
  refine congrArg (v.read (Elt F) f) (funext fun a => Fin.ext ?_)
  fin_cases a
  · show o + 1 * (j 0).val = o + (j 0).val; omega
  · show 0 + 1 * (j 1).val = (j 1).val; omega

theorem readCov_cols (v : View sig .tc .vmem S1024x4096 .bf16) (L : List (View.Piece (Elt F) S1024x4096 .bf16))
    (w : Vec F S1024x4096 .bf16) (hL : View.canon L = w) (o : ℕ) (h : o + 1024 ≤ 4096)
    (inb : ∀ a, (![0, o] : Fin 2 → ℕ) a + (![1024, 1024] : Fin 2 → ℕ) a ≤ S1024x4096.size a) :
    v.readCov L (Rect.unit (s := S1024x4096) ![0, o] ![1024, 1024] inb).toLoadRect = cols w o h := by
  rw [View.readCov, readAt_cols v _ o h, View.read_writes_junk_eq_canon, hL]

theorem readCov_rows (v : View sig .tc .vmem S4096x1024 .bf16) (L : List (View.Piece (Elt F) S4096x1024 .bf16))
    (w : Vec F S4096x1024 .bf16) (hL : View.canon L = w) (o : ℕ) (h : o + 1024 ≤ 4096)
    (inb : ∀ a, (![o, 0] : Fin 2 → ℕ) a + (![1024, 1024] : Fin 2 → ℕ) a ≤ S4096x1024.size a) :
    v.readCov L (Rect.unit (s := S4096x1024) ![o, 0] ![1024, 1024] inb).toLoadRect = rows w o h := by
  rw [View.readCov, readAt_rows v _ o h, View.read_writes_junk_eq_canon, hL]

theorem readAt_gain (v : View sig .tc .vmem S2x1024 .f32) (f : v.ty.Contents (Elt F))
    (inb : ∀ a, (![0, 0] : Fin 2 → ℕ) a + (![1, 1024] : Fin 2 → ℕ) a ≤ S2x1024.size a) :
    v.readAt (Elt F) (Rect.unit (s := S2x1024) ![0, 0] ![1, 1024] inb).toLoadRect f = gain (v.read (Elt F) f) := by
  funext j
  refine congrArg (v.read (Elt F) f) (funext fun a => Fin.ext ?_)
  have h0 : (j 0).val < 1 := (j 0).isLt
  fin_cases a
  · show 0 + 1 * (j 0).val = 0; omega
  · show 0 + 1 * (j 1).val = (j 1).val; omega

/-- The body's stored tile is `tileOut` when each of its loads is the part of the named contents it says. -/
theorem tileOut_of {x x' : Vec F S1024x1024 .f32} {g : Vec F S2x1024 .f32} {g' : Vec F S1x1024 .f32}
    {w1 : Vec F S1024x4096 .bf16} {w2 : Vec F S4096x1024 .bf16} {a0 a1 a2 a3 b0 b1 b2 b3 : Vec F S1024x1024 .bf16}
    (hx : x' = x) (hg : g' = gain g)
    (ha0 : a0 = cols w1 0 (by omega)) (hb0 : b0 = rows w2 0 (by omega)) (ha1 : a1 = cols w1 1024 (by omega)) (hb1 : b1 = rows w2 1024 (by omega))
    (ha2 : a2 = cols w1 2048 (by omega)) (hb2 : b2 = rows w2 2048 (by omega)) (ha3 : a3 = cols w1 3072 (by omega)) (hb3 : b3 = rows w2 3072 (by omega)) :
    k0_pay1 (k0_pay19 x' g') (k0_pay20 x' g' a0 b0) (k0_pay21 x' g' a1) b1 (constant S1024x1024 .f32 0x00000000#32) a2 b2 a3 b3
      = tileOut x g w1 w2 := by
  subst hx hg ha0 hb0 ha1 hb1 ha2 hb2 ha3 hb3
  rfl

/-- A chunk of the up-projection's rows, narrowed, is that chunk of the kept matrix. -/
theorem piece1 {c : Dev nD} (f : HbBuf0 (F := F) c hbM0_0) (o : ℕ)
    (inb : ∀ a, (![o, 0] : Fin 2 → ℕ) a + S128x4096.size a ≤ S1024x4096.size a) (inb' : ∀ a, (![0, o, 0] : Fin 3 → ℕ) a + S1x128x4096.size a ≤ S2x1024x4096.size a)
    (v : Vec F S1x128x4096 .f32) (hv : v = hbM0_0.view.readAt (Elt F) (Rect.unit (s := S2x1024x4096) ![0, o, 0] S1x128x4096.size inb').toLoadRect f)
    (x : S128x4096.Idx) : k0_pay2 v x = W1 f ((Rect.unit (s := S1024x4096) ![o, 0] S128x4096.size inb).emb x) := by
  subst hv
  have hcast : ∀ w : Vec F S1x128x4096 .f32, k0_pay2 w x = truncf .bf16 (fun i => w (ix3 0 (i 0) (i 1)) : FVec F S128x4096 .f32) bitsLt_bf16_f32 x := by
    intro w
    rw [eq_ix2 x]
    pointwise [k0_pay2]
  rw [hcast]
  refine congrArg (fun z : F .f32 => truncf .bf16 (fun _ : S1024.Idx => z : FVec F S1024 .f32) bitsLt_bf16_f32 (ix1 0)) (congrArg (hbM0_0.view.read (Elt F) f) (funext fun a => Fin.ext ?_))
  fin_cases a
  · rfl
  · show o + 1 * (x 0).val = o + 1 * (x 0).val; rfl
  · show 0 + 1 * (x 1).val = 0 + 1 * (x 1).val; rfl

/-- A chunk of the down-projection's rows, narrowed, is that chunk of the kept matrix. -/
theorem piece2 {c : Dev nD} (f : HbBuf0 (F := F) c hbM0_1) (o : ℕ)
    (inb : ∀ a, (![o, 0] : Fin 2 → ℕ) a + S512x1024.size a ≤ S4096x1024.size a) (inb' : ∀ a, (![0, o, 0] : Fin 3 → ℕ) a + S1x512x1024.size a ≤ S2x4096x1024.size a)
    (v : Vec F S1x512x1024 .f32) (hv : v = hbM0_1.view.readAt (Elt F) (Rect.unit (s := S2x4096x1024) ![0, o, 0] S1x512x1024.size inb').toLoadRect f)
    (x : S512x1024.Idx) : k0_pay10 v x = W2 f ((Rect.unit (s := S4096x1024) ![o, 0] S512x1024.size inb).emb x) := by
  subst hv
  have hcast : ∀ w : Vec F S1x512x1024 .f32, k0_pay10 w x = truncf .bf16 (fun i => w (ix3 0 (i 0) (i 1)) : FVec F S512x1024 .f32) bitsLt_bf16_f32 x := by
    intro w
    rw [eq_ix2 x]
    pointwise [k0_pay10]
  rw [hcast]
  refine congrArg (fun z : F .f32 => truncf .bf16 (fun _ : S1024.Idx => z : FVec F S1024 .f32) bitsLt_bf16_f32 (ix1 0)) (congrArg (hbM0_1.view.read (Elt F) f) (funext fun a => Fin.ext ?_))
  fin_cases a
  · rfl
  · show o + 1 * (x 0).val = o + 1 * (x 0).val; rfl
  · show 0 + 1 * (x 1).val = 0 + 1 * (x 1).val; rfl

theorem mem_chunk1 (y : S1024x4096.Idx) (o : ℕ) (inb : ∀ a, (![o, 0] : Fin 2 → ℕ) a + S128x4096.size a ≤ S1024x4096.size a)
    (h1 : o ≤ (y 0).val) (h2 : (y 0).val < o + 128) : y ∈ (Rect.unit (s := S1024x4096) ![o, 0] S128x4096.size inb).set := by
  rw [Rect.mem_set_unit]
  intro a
  fin_cases a
  · exact ⟨h1, h2⟩
  · exact ⟨Nat.zero_le _, by show (y 1).val < 0 + 4096; have h : (y 1).val < 4096 := (y 1).isLt; omega⟩

theorem mem_chunk2 (y : S4096x1024.Idx) (o : ℕ) (inb : ∀ a, (![o, 0] : Fin 2 → ℕ) a + S512x1024.size a ≤ S4096x1024.size a)
    (h1 : o ≤ (y 0).val) (h2 : (y 0).val < o + 512) : y ∈ (Rect.unit (s := S4096x1024) ![o, 0] S512x1024.size inb).set := by
  rw [Rect.mem_set_unit]
  intro a
  fin_cases a
  · exact ⟨h1, h2⟩
  · exact ⟨Nat.zero_le _, by show (y 1).val < 0 + 1024; have h : (y 1).val < 1024 := (y 1).isLt; omega⟩

/-- A load of the slot last transferred into reads the transferred rows of the weights. -/
theorem hit1 (A : Memref sig .tc .vmem S2x128x4096 .f32) (s o : ℕ)
    (inb : ∀ a, (![s, 0, 0] : Fin 3 → ℕ) a + S1x128x4096.size a ≤ S2x128x4096.size a) (inb' : ∀ a, (![0, o, 0] : Fin 3 → ℕ) a + S1x128x4096.size a ≤ S2x1024x4096.size a)
    (h : ∀ a, (Rect.unit (s := S2x128x4096) ![s, 0, 0] S1x128x4096.size inb).stride a = 1) (h' : ∀ a, (Rect.unit (s := S2x1024x4096) ![0, o, 0] S1x128x4096.size inb').stride a = 1)
    (hq : S1x128x4096.Squeezes S128x4096) (hq' : S1x128x4096.Squeezes S128x4096) (f : A.view.ty.Contents (Elt F)) (g : hbM0_0.view.ty.Contents (Elt F))
    (d : S128x4096.Idx → Elt F .f32)
    (hd : d = ((hbM0_0.slice (Rect.unit (s := S2x1024x4096) ![0, o, 0] S1x128x4096.size inb') h').squeeze S128x4096 hq').view.read (Elt F) g) :
    A.view.readAt (Elt F) (Rect.unit (s := S2x128x4096) ![s, 0, 0] S1x128x4096.size inb).toLoadRect
      (View.write (Elt F) ((A.slice (Rect.unit (s := S2x128x4096) ![s, 0, 0] S1x128x4096.size inb) h).squeeze S128x4096 hq).view f d Finset.univ)
      = hbM0_0.view.readAt (Elt F) (Rect.unit (s := S2x1024x4096) ![0, o, 0] S1x128x4096.size inb').toLoadRect g := by
  subst hd
  exact funext fun j => staged_hit A hbM0_0 _ _ _ _ h' rfl h hq hq' f g j

/-- A load of the other slot does not see it. -/
theorem skip1 (A : Memref sig .tc .vmem S2x128x4096 .f32) (s s' : ℕ) (hs : s + 1 ≤ s' ∨ s' + 1 ≤ s)
    (inb : ∀ a, (![s, 0, 0] : Fin 3 → ℕ) a + S1x128x4096.size a ≤ S2x128x4096.size a) (inb' : ∀ a, (![s', 0, 0] : Fin 3 → ℕ) a + S1x128x4096.size a ≤ S2x128x4096.size a)
    (h : ∀ a, (Rect.unit (s := S2x128x4096) ![s', 0, 0] S1x128x4096.size inb').stride a = 1)
    (hq : S1x128x4096.Squeezes S128x4096) (f : A.view.ty.Contents (Elt F)) (d : S128x4096.Idx → Elt F .f32) :
    A.view.readAt (Elt F) (Rect.unit (s := S2x128x4096) ![s, 0, 0] S1x128x4096.size inb).toLoadRect
      (View.write (Elt F) ((A.slice (Rect.unit (s := S2x128x4096) ![s', 0, 0] S1x128x4096.size inb') h).squeeze S128x4096 hq).view f d Finset.univ)
      = A.view.readAt (Elt F) (Rect.unit (s := S2x128x4096) ![s, 0, 0] S1x128x4096.size inb).toLoadRect f :=
  staged_skip A _ _ _ inb inb' h hq f d 0 hs

/-- A load of the slot last transferred into reads the transferred rows of the weights. -/
theorem hit2 (A : Memref sig .tc .vmem S2x512x1024 .f32) (s o : ℕ)
    (inb : ∀ a, (![s, 0, 0] : Fin 3 → ℕ) a + S1x512x1024.size a ≤ S2x512x1024.size a) (inb' : ∀ a, (![0, o, 0] : Fin 3 → ℕ) a + S1x512x1024.size a ≤ S2x4096x1024.size a)
    (h : ∀ a, (Rect.unit (s := S2x512x1024) ![s, 0, 0] S1x512x1024.size inb).stride a = 1) (h' : ∀ a, (Rect.unit (s := S2x4096x1024) ![0, o, 0] S1x512x1024.size inb').stride a = 1)
    (hq : S1x512x1024.Squeezes S512x1024) (hq' : S1x512x1024.Squeezes S512x1024) (f : A.view.ty.Contents (Elt F)) (g : hbM0_1.view.ty.Contents (Elt F))
    (d : S512x1024.Idx → Elt F .f32)
    (hd : d = ((hbM0_1.slice (Rect.unit (s := S2x4096x1024) ![0, o, 0] S1x512x1024.size inb') h').squeeze S512x1024 hq').view.read (Elt F) g) :
    A.view.readAt (Elt F) (Rect.unit (s := S2x512x1024) ![s, 0, 0] S1x512x1024.size inb).toLoadRect
      (View.write (Elt F) ((A.slice (Rect.unit (s := S2x512x1024) ![s, 0, 0] S1x512x1024.size inb) h).squeeze S512x1024 hq).view f d Finset.univ)
      = hbM0_1.view.readAt (Elt F) (Rect.unit (s := S2x4096x1024) ![0, o, 0] S1x512x1024.size inb').toLoadRect g := by
  subst hd
  exact funext fun j => staged_hit A hbM0_1 _ _ _ _ h' rfl h hq hq' f g j

/-- A load of the other slot does not see it. -/
theorem skip2 (A : Memref sig .tc .vmem S2x512x1024 .f32) (s s' : ℕ) (hs : s + 1 ≤ s' ∨ s' + 1 ≤ s)
    (inb : ∀ a, (![s, 0, 0] : Fin 3 → ℕ) a + S1x512x1024.size a ≤ S2x512x1024.size a) (inb' : ∀ a, (![s', 0, 0] : Fin 3 → ℕ) a + S1x512x1024.size a ≤ S2x512x1024.size a)
    (h : ∀ a, (Rect.unit (s := S2x512x1024) ![s', 0, 0] S1x512x1024.size inb').stride a = 1)
    (hq : S1x512x1024.Squeezes S512x1024) (f : A.view.ty.Contents (Elt F)) (d : S512x1024.Idx → Elt F .f32) :
    A.view.readAt (Elt F) (Rect.unit (s := S2x512x1024) ![s, 0, 0] S1x512x1024.size inb).toLoadRect
      (View.write (Elt F) ((A.slice (Rect.unit (s := S2x512x1024) ![s', 0, 0] S1x512x1024.size inb') h).squeeze S512x1024 hq).view f d Finset.univ)
      = A.view.readAt (Elt F) (Rect.unit (s := S2x512x1024) ![s, 0, 0] S1x512x1024.size inb).toLoadRect f :=
  staged_skip A _ _ _ inb inb' h hq f d 0 hs

end Cert.FfnFirstIdeal.Run

end
-- ==== Proof.FfnFirst.RunA.lean ====
/- The first layer's feed-forward body at the first grid point: its run, with the two kept matrices and the output block named. -/
module

public import proofs.«01_k».proof.Proof.FfnFirst.Weights

@[expose] public section

set_option maxRecDepth 16384

noncomputable section

namespace Cert.FfnFirstIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFirstIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1504000 in set_option sl_exec.dmaWindow true in set_option sl_exec.dmaWindowSet true in
/-- The body at the first point: its sixteen transfers leave the two narrowed matrices in the scratch, and its output block is
    `tileOut` of the input blocks and of them. -/
theorem kernelRun0_A (c : Dev nD) (i : grid0.Coords) (arg1 : Memref sig .tc .vmem S1024x1024 .f32) (harg1 : arg1.IsWhole) (arg2 : Memref sig .tc .vmem S2x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x4096 .bf16) (harg7 : arg7.IsWhole) (arg8 : Memref sig .tc .vmem S4096x1024 .bf16) (harg8 : arg8.IsWhole) (alloca_r0 : Memref sig .tc .vmem S2x128x4096 .f32) (halloca_r0 : alloca_r0.IsWhole) (alloca_r1 : Memref sig .tc .vmem S2x512x1024 .f32) (halloca_r1 : alloca_r1.IsWhole) (hc0 : cond0_0 i)
    (x0 : Vec F S1024x1024 .f32) (x1 : Vec F S2x1024 .f32) (x2 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare (tileOut x0 x1 (W1 fh0) (W2 fh1)) ∗ owns (c : Thread nD τ) arg7 fullShare (W1 fh0) ∗ owns (c : Thread nD τ) arg8 fullShare (W2 fh1) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
    intro W K
    simp only [cc0_ffn_eq_skeleton]; unfold cc0_ffn_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hq0, Hq1, Hq2, Hq3, Hh0, Hh1, HW, Hk⟩
    obtain rfl := harg1.eq_unread hf0; obtain rfl := harg2.eq_unread hf1; obtain rfl := harg5.eq_unread hf2
    sl_exec (disch := first | sl_exact hc0)
    sl_step
    have hp1 : ∀ p ∈ kernelRun0_A.sl.HS0_8 c alloca_r0 fh0 fs2, ∀ x, p.2 x = W1 fh0 (p.1.emb x) := by
      unfold kernelRun0_A.sl.HS0_8
      simp only [List.forall_mem_cons]
      refine ⟨piece1 fh0 896 _ (by decide) _ (by unfold kernelRun0_A.sl.v195_r0; exact (hit1 alloca_r0 1 896 _ _ _ (fun _ => rfl) _ squeezes_S1x128x4096_S128x4096 _ fh0 _ rfl)),
        piece1 fh0 768 _ (by decide) _ (by unfold kernelRun0_A.sl.v183_r0; exact (skip1 alloca_r0 0 1 (by decide) _ _ _ _ _ _).trans (hit1 alloca_r0 0 768 _ _ _ (fun _ => rfl) _ squeezes_S1x128x4096_S128x4096 _ fh0 _ rfl)),
        piece1 fh0 640 _ (by decide) _ (by unfold kernelRun0_A.sl.v165_r0; exact (skip1 alloca_r0 1 0 (by decide) _ _ _ _ _ _).trans (hit1 alloca_r0 1 640 _ _ _ (fun _ => rfl) _ squeezes_S1x128x4096_S128x4096 _ fh0 _ rfl)),
        piece1 fh0 512 _ (by decide) _ (by unfold kernelRun0_A.sl.v147_r0; exact (skip1 alloca_r0 0 1 (by decide) _ _ _ _ _ _).trans (hit1 alloca_r0 0 512 _ _ _ (fun _ => rfl) _ squeezes_S1x128x4096_S128x4096 _ fh0 _ rfl)),
        piece1 fh0 384 _ (by decide) _ (by unfold kernelRun0_A.sl.v129_r0; exact (skip1 alloca_r0 1 0 (by decide) _ _ _ _ _ _).trans (hit1 alloca_r0 1 384 _ _ _ (fun _ => rfl) _ squeezes_S1x128x4096_S128x4096 _ fh0 _ rfl)),
        piece1 fh0 256 _ (by decide) _ (by unfold kernelRun0_A.sl.v111_r0; exact (skip1 alloca_r0 0 1 (by decide) _ _ _ _ _ _).trans (hit1 alloca_r0 0 256 _ _ _ (fun _ => rfl) _ squeezes_S1x128x4096_S128x4096 _ fh0 _ rfl)),
        piece1 fh0 128 _ (by decide) _ (by unfold kernelRun0_A.sl.v93_r0; exact (skip1 alloca_r0 1 0 (by decide) _ _ _ _ _ _).trans (hit1 alloca_r0 1 128 _ _ _ (fun _ => rfl) _ squeezes_S1x128x4096_S128x4096 _ fh0 _ rfl)),
        piece1 fh0 0 _ (by decide) _ (by unfold kernelRun0_A.sl.v75_r0; exact (skip1 alloca_r0 0 1 (by decide) _ _ _ _ _ _).trans (hit1 alloca_r0 0 0 _ _ _ (fun _ => rfl) _ squeezes_S1x128x4096_S128x4096 _ fh0 _ rfl)), fun _ h => absurd h List.not_mem_nil⟩
    have hm1 : ∀ y, ∃ p ∈ kernelRun0_A.sl.HS0_8 c alloca_r0 fh0 fs2, y ∈ p.1.set := by
      intro y
      unfold kernelRun0_A.sl.HS0_8
      simp only [List.exists_mem_cons_iff]
      have hy : (y 0).val < 1024 := (y 0).isLt
      by_cases h7 : 896 ≤ (y 0).val
      · exact Or.inl (mem_chunk1 y 896 _ (by omega) (by omega))
      refine Or.inr ?_
      by_cases h6 : 768 ≤ (y 0).val
      · exact Or.inl (mem_chunk1 y 768 _ (by omega) (by omega))
      refine Or.inr ?_
      by_cases h5 : 640 ≤ (y 0).val
      · exact Or.inl (mem_chunk1 y 640 _ (by omega) (by omega))
      refine Or.inr ?_
      by_cases h4 : 512 ≤ (y 0).val
      · exact Or.inl (mem_chunk1 y 512 _ (by omega) (by omega))
      refine Or.inr ?_
      by_cases h3 : 384 ≤ (y 0).val
      · exact Or.inl (mem_chunk1 y 384 _ (by omega) (by omega))
      refine Or.inr ?_
      by_cases h2 : 256 ≤ (y 0).val
      · exact Or.inl (mem_chunk1 y 256 _ (by omega) (by omega))
      refine Or.inr ?_
      by_cases h1 : 128 ≤ (y 0).val
      · exact Or.inl (mem_chunk1 y 128 _ (by omega) (by omega))
      refine Or.inr ?_
      exact Or.inl (mem_chunk1 y 0 _ (by omega) (by omega))
    have hc1 : View.canon (kernelRun0_A.sl.HS0_8 c alloca_r0 fh0 fs2) = W1 fh0 :=
      funext fun y => View.canon_apply_of_pieces (W1 fh0) _ hp1 y (hm1 y)
    have hp2 : ∀ p ∈ kernelRun0_A.sl.HS1_8 c alloca_r1 fh1 fs3, ∀ x, p.2 x = W2 fh1 (p.1.emb x) := by
      unfold kernelRun0_A.sl.HS1_8
      simp only [List.forall_mem_cons]
      refine ⟨piece2 fh1 3584 _ (by decide) _ (by unfold kernelRun0_A.sl.v195_r1; exact (hit2 alloca_r1 1 3584 _ _ _ (fun _ => rfl) _ squeezes_S1x512x1024_S512x1024 _ fh1 _ rfl)),
        piece2 fh1 3072 _ (by decide) _ (by unfold kernelRun0_A.sl.v183_r1; exact (skip2 alloca_r1 0 1 (by decide) _ _ _ _ _ _).trans (hit2 alloca_r1 0 3072 _ _ _ (fun _ => rfl) _ squeezes_S1x512x1024_S512x1024 _ fh1 _ rfl)),
        piece2 fh1 2560 _ (by decide) _ (by unfold kernelRun0_A.sl.v165_r1; exact (skip2 alloca_r1 1 0 (by decide) _ _ _ _ _ _).trans (hit2 alloca_r1 1 2560 _ _ _ (fun _ => rfl) _ squeezes_S1x512x1024_S512x1024 _ fh1 _ rfl)),
        piece2 fh1 2048 _ (by decide) _ (by unfold kernelRun0_A.sl.v147_r1; exact (skip2 alloca_r1 0 1 (by decide) _ _ _ _ _ _).trans (hit2 alloca_r1 0 2048 _ _ _ (fun _ => rfl) _ squeezes_S1x512x1024_S512x1024 _ fh1 _ rfl)),
        piece2 fh1 1536 _ (by decide) _ (by unfold kernelRun0_A.sl.v129_r1; exact (skip2 alloca_r1 1 0 (by decide) _ _ _ _ _ _).trans (hit2 alloca_r1 1 1536 _ _ _ (fun _ => rfl) _ squeezes_S1x512x1024_S512x1024 _ fh1 _ rfl)),
        piece2 fh1 1024 _ (by decide) _ (by unfold kernelRun0_A.sl.v111_r1; exact (skip2 alloca_r1 0 1 (by decide) _ _ _ _ _ _).trans (hit2 alloca_r1 0 1024 _ _ _ (fun _ => rfl) _ squeezes_S1x512x1024_S512x1024 _ fh1 _ rfl)),
        piece2 fh1 512 _ (by decide) _ (by unfold kernelRun0_A.sl.v93_r1; exact (skip2 alloca_r1 1 0 (by decide) _ _ _ _ _ _).trans (hit2 alloca_r1 1 512 _ _ _ (fun _ => rfl) _ squeezes_S1x512x1024_S512x1024 _ fh1 _ rfl)),
        piece2 fh1 0 _ (by decide) _ (by unfold kernelRun0_A.sl.v75_r1; exact (skip2 alloca_r1 0 1 (by decide) _ _ _ _ _ _).trans (hit2 alloca_r1 0 0 _ _ _ (fun _ => rfl) _ squeezes_S1x512x1024_S512x1024 _ fh1 _ rfl)), fun _ h => absurd h List.not_mem_nil⟩
    have hm2 : ∀ y, ∃ p ∈ kernelRun0_A.sl.HS1_8 c alloca_r1 fh1 fs3, y ∈ p.1.set := by
      intro y
      unfold kernelRun0_A.sl.HS1_8
      simp only [List.exists_mem_cons_iff]
      have hy : (y 0).val < 4096 := (y 0).isLt
      by_cases h7 : 3584 ≤ (y 0).val
      · exact Or.inl (mem_chunk2 y 3584 _ (by omega) (by omega))
      refine Or.inr ?_
      by_cases h6 : 3072 ≤ (y 0).val
      · exact Or.inl (mem_chunk2 y 3072 _ (by omega) (by omega))
      refine Or.inr ?_
      by_cases h5 : 2560 ≤ (y 0).val
      · exact Or.inl (mem_chunk2 y 2560 _ (by omega) (by omega))
      refine Or.inr ?_
      by_cases h4 : 2048 ≤ (y 0).val
      · exact Or.inl (mem_chunk2 y 2048 _ (by omega) (by omega))
      refine Or.inr ?_
      by_cases h3 : 1536 ≤ (y 0).val
      · exact Or.inl (mem_chunk2 y 1536 _ (by omega) (by omega))
      refine Or.inr ?_
      by_cases h2 : 1024 ≤ (y 0).val
      · exact Or.inl (mem_chunk2 y 1024 _ (by omega) (by omega))
      refine Or.inr ?_
      by_cases h1 : 512 ≤ (y 0).val
      · exact Or.inl (mem_chunk2 y 512 _ (by omega) (by omega))
      refine Or.inr ?_
      exact Or.inl (mem_chunk2 y 0 _ (by omega) (by omega))
    have hc2 : View.canon (kernelRun0_A.sl.HS1_8 c alloca_r1 fh1 fs3) = W2 fh1 :=
      funext fun y => View.canon_apply_of_pieces (W2 fh1) _ hp2 y (hm2 y)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; swap; · iexact H3
      ipureintro
      refine (View.read_writes_full _ _ _ _ _).trans ?_
      exact tileOut_of ((View.readAt_full _ _ _).trans hf0) ((readAt_gain _ _ _).trans (congrArg gain hf1))
        (readCov_cols _ _ _ hc1 0 (by omega) _) (readCov_rows _ _ _ hc2 0 (by omega) _)
        (readCov_cols _ _ _ hc1 1024 (by omega) _) (readCov_rows _ _ _ hc2 1024 (by omega) _)
        (readCov_cols _ _ _ hc1 2048 (by omega) _) (readCov_rows _ _ _ hc2 2048 (by omega) _)
        (readCov_cols _ _ _ hc1 3072 (by omega) _) (readCov_rows _ _ _ hc2 3072 (by omega) _)
    isplitl [HS0]
    · iexists _; isplitr; swap; · iexact HS0
      ipureintro
      exact (View.read_writes_eq_canon _ _ _ hm1).trans hc1
    isplitl [HS1]
    · iexists _; isplitr; swap; · iexact HS1
      ipureintro
      exact (View.read_writes_eq_canon _ _ _ hm2).trans hc2
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.FfnFirstIdeal.Run

end
-- ==== Proof.FfnFirst.RunB.lean ====
/- The first layer's feed-forward body at a later grid point: its run, with the output block named. -/
module

public import proofs.«01_k».proof.Proof.FfnFirst.Weights

@[expose] public section

set_option maxRecDepth 16384

noncomputable section

namespace Cert.FfnFirstIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFirstIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body at a later point: with the input blocks staged and the two kept matrices in the scratch, it leaves `tileOut` of them
    in the output block and everything else as it was. -/
theorem kernelRun0_B (c : Dev nD) (i : grid0.Coords) (arg1 : Memref sig .tc .vmem S1024x1024 .f32) (harg1 : arg1.IsWhole) (arg2 : Memref sig .tc .vmem S2x1024 .f32) (harg2 : arg2.IsWhole) (arg5 : Memref sig .tc .vmem S1x1024 .f32) (harg5 : arg5.IsWhole) (arg6 : Memref sig .tc .vmem S1024x1024 .f32) (harg6 : arg6.IsWhole) (arg7 : Memref sig .tc .vmem S1024x4096 .bf16) (harg7 : arg7.IsWhole) (arg8 : Memref sig .tc .vmem S4096x1024 .bf16) (harg8 : arg8.IsWhole) (alloca_r0 : Memref sig .tc .vmem S2x128x4096 .f32) (halloca_r0 : alloca_r0.IsWhole) (alloca_r1 : Memref sig .tc .vmem S2x512x1024 .f32) (halloca_r1 : alloca_r1.IsWhole) (hc0 : ¬cond0_0 i)
    (x0 : Vec F S1024x1024 .f32) (x1 : Vec F S2x1024 .f32) (x2 : Vec F S1x1024 .f32) (w1 : Vec F S1024x4096 .bf16) (w2 : Vec F S4096x1024 .bf16) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg5 fullShare x2 ∗ (∃ d, owns (c : Thread nD τ) arg6 fullShare d) ∗ owns (c : Thread nD τ) arg7 fullShare w1 ∗ owns (c : Thread nD τ) arg8 fullShare w2 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg5 fullShare x2 ∗ owns (c : Thread nD τ) arg6 fullShare (tileOut x0 x1 w1 w2) ∗ owns (c : Thread nD τ) arg7 fullShare w1 ∗ owns (c : Thread nD τ) arg8 fullShare w2 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
    intro W K
    simp only [cc0_ffn_eq_skeleton]; unfold cc0_ffn_skel
    simp only [k0_part11_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%ds2, %fs2, -, HS2⟩, ⟨%ds3, %fs3, -, HS3⟩, Hq0, Hq1, Hq2, Hq3, Hh0, Hh1, HW, Hk⟩
    obtain rfl := harg1.eq_unread hf0; obtain rfl := harg2.eq_unread hf1; obtain rfl := harg5.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; swap; · iexact H3
      ipureintro
      refine (View.read_writes_full _ _ _ _ _).trans ?_
      exact tileOut_of ((View.readAt_full _ _ _).trans hf0) ((readAt_gain _ _ _).trans (congrArg gain hf1))
        ((readAt_cols _ _ 0 (by omega) _).trans (by rw [hfs0])) ((readAt_rows _ _ 0 (by omega) _).trans (by rw [hfs1]))
        ((readAt_cols _ _ 1024 (by omega) _).trans (by rw [hfs0])) ((readAt_rows _ _ 1024 (by omega) _).trans (by rw [hfs1]))
        ((readAt_cols _ _ 2048 (by omega) _).trans (by rw [hfs0])) ((readAt_rows _ _ 2048 (by omega) _).trans (by rw [hfs1]))
        ((readAt_cols _ _ 3072 (by omega) _).trans (by rw [hfs0])) ((readAt_rows _ _ 3072 (by omega) _).trans (by rw [hfs1]))
    isplitl [HS0]
    · iexists _; isplitr; swap; · iexact HS0
      ipureintro; exact hfs0
    isplitl [HS1]
    · iexists _; isplitr; swap; · iexact HS1
      ipureintro; exact hfs1
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.FfnFirstIdeal.Run

end
-- ==== Proof.FfnFirst.Frame.lean ====
/- The first layer's feed-forward call's run: what its scratch and its output block hold point by point, the body's obligation, the launch and
   the argument arrays after it. -/
module

public import proofs.«01_k».proof.Proof.FfnFirst.RunA
public import proofs.«01_k».proof.Proof.FfnFirst.RunB
public import Idealize.ShloMosaic.Lib.Claim

@[expose] public section

set_option maxRecDepth 16384

noncomputable section

namespace Cert.FfnFirstIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnFirstIdeal.Gen hiding hmain before0_0_of before0_1_of before0_2_of frame_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant from the second point on: as at the launch, with the two kept matrices named. -/
def PhiN (c : Dev nD) : sProp 𝕄 :=
  iprop(iprop(owns (c : Thread nD τ) scM0_0 fullShare (W1 (V m c main_arg2)) ∗ owns (c : Thread nD τ) scM0_1 fullShare (W2 (V m c main_arg3)) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg2) ∗ hbPt0 c hbM0_1 (V m c main_arg3)))

/-- Forgetting the names. -/
theorem PhiN_forget (c : Dev nD) : PhiN m c ⊢ (Pipeline.ΦD osem0 spec0 H0 (V m) c : sProp 𝕄) := by
  rw [PhiD0_eq]
  unfold PhiN
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq]; · iexact Hq
  iexact Hh

/-- The invariant at each point. -/
def Phi (c : Dev nD) (t : Fin (cfg0.N + 1)) : sProp 𝕄 :=
  if t.val = 0 then Pipeline.ΦD osem0 spec0 H0 (V m) c else PhiN m c

theorem Phi_zero (c : Dev nD) (t : Fin (cfg0.N + 1)) (h : t.val = 0) : Phi m c t = Pipeline.ΦD osem0 spec0 H0 (V m) c := if_pos h
theorem Phi_pos (c : Dev nD) (t : Fin (cfg0.N + 1)) (h : ¬ t.val = 0) : Phi m c t = PhiN m c := if_neg h

/-- What the body leaves in its output block at point `t`. -/
def outAt (c : Dev nD) (t : Fin cfg0.N) : Vec F S1024x1024 .f32 :=
  tileOut (iblk m c 0 t) (iblk m c 1 t) (W1 (V m c main_arg2)) (W2 (V m c main_arg3))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the first by its run there, a later one by its own. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  unfold Dat.owesAt Pipeline.owesWithin outAt
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · rw [show (dats m 0 c).Φ t.castSucc = Pipeline.ΦD osem0 spec0 H0 (V m) c from Phi_zero m c t.castSucc (by show t.val = 0; omega), PhiD0_eq]
    rw [show (dats m 0 c).Φ t.succ = PhiN m c from Phi_pos m c t.succ (by rw [Fin.val_succ]; omega)]
    unfold PhiN
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩⟩
    iapply ((kernelRun0_A c (grid0.coords t) _ _ _ _ _ _ _ _ _ _ _ _ _ _ _ _ ((hcond0_0 t).mpr h0) (iblk m c 0 t) (iblk m c 1 t) (iblk m c 2 t) (V m c main_arg2) (V m c main_arg3)) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · rw [show (dats m 0 c).Φ t.castSucc = PhiN m c from Phi_pos m c t.castSucc (by show ¬ t.val = 0; omega)]
    rw [show (dats m 0 c).Φ t.succ = PhiN m c from Phi_pos m c t.succ (by rw [Fin.val_succ]; omega)]
    unfold PhiN
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩⟩
    iapply ((kernelRun0_B c (grid0.coords t) _ _ _ _ _ _ _ _ _ _ _ _ _ _ _ _ (fun h => h0 ((hcond0_0 t).mp h)) (iblk m c 0 t) (iblk m c 1 t) (iblk m c 2 t) (W1 (V m c main_arg2)) (W2 (V m c main_arg3)) (V m c main_arg2) (V m c main_arg3)) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, HS0, HS1, HS2, HS3, Hq0, Hq1, Hq2, Hq3, Hh0, Hh1, ⟨%W', HW'⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl)
    (hout := fun c => (show (dats m 0 c).Φ (Fin.last cfg0.N) ⊢ _ from by
      rw [show (dats m 0 c).Φ (Fin.last cfg0.N) = PhiN m c from Phi_pos m c (Fin.last cfg0.N) (by show ¬ cfg0.N = 0; rw [show cfg0.N = 16 from N_0]; omega)]
      exact PhiN_forget m c))

/-- The frame run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The frame at any float arithmetic: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnFirstIdeal.Run

end
-- ==== Proof.FfnFirst.Pure.lean ====
/- The first layer's feed-forward tile and the reference, each read at an index as the same expression in the arguments' elements. -/
module

public import proofs.«01_k».proof.Proof.FfnFirst.Weights
public import proofs.«01_k».proof.Proof.Ffn.Pure
public import proofs.«01_k».proof.Proof.Gen.FfnFirstReferenceIdeal.Run
public import Idealize.ShloMosaic.Lib.Pointwise

@[expose] public section

set_option maxRecDepth 16384

noncomputable section

namespace Cert.FfnFirstPure

open Idealize.ShloMosaic Idealize.ShloMosaic.TcCoe

open Cert.FfnPure (rms hid rNorm rHid rNorm_at rHid_at)

/-- The first layer on a row: the residual and the down-projection of its hidden units. -/
def layer (x g : Fin 1024 → EReal) (w1 : Fin 1024 → Fin 4096 → EReal) (w2 : Fin 4096 → Fin 1024 → EReal) (d : Fin 1024) : EReal :=
  x d + ∑ j, hid (rms x g) w1 j * w2 j d

section Kernel
open Cert.FfnFirstIdeal Cert.FfnFirstIdeal.Gen Cert.FfnFirstIdeal.Run

theorem pay19 (x : Vec Ideal S1024x1024 .f32) (g : Vec Ideal S1x1024 .f32) (r k : Fin 1024) :
    k0_pay19 x g (ix2 r k) = rms (fun l => x (ix2 r l)) (fun l => g (ix2 0 l)) k := by
  pointwise [k0_pay19, k0_pay18, rms]

theorem pay20 (x : Vec Ideal S1024x1024 .f32) (g : Vec Ideal S1x1024 .f32) (a b : Vec Ideal S1024x1024 .bf16) (r d : Fin 1024) :
    k0_pay20 x g a b (ix2 r d) = x (ix2 r d) + ∑ t : Fin 1024, max (∑ k : Fin 1024, rms (fun l => x (ix2 r l)) (fun l => g (ix2 0 l)) k * a (ix2 k t)) 0
      * max (∑ k : Fin 1024, rms (fun l => x (ix2 r l)) (fun l => g (ix2 0 l)) k * a (ix2 k t)) 0 * b (ix2 t d) := by
  pointwise [k0_pay20, k0_pay18, pay19]

theorem pay21 (x : Vec Ideal S1024x1024 .f32) (g : Vec Ideal S1x1024 .f32) (a : Vec Ideal S1024x1024 .bf16) (r t : Fin 1024) :
    k0_pay21 x g a (ix2 r t) = max (∑ k : Fin 1024, rms (fun l => x (ix2 r l)) (fun l => g (ix2 0 l)) k * a (ix2 k t)) 0
      * max (∑ k : Fin 1024, rms (fun l => x (ix2 r l)) (fun l => g (ix2 0 l)) k * a (ix2 k t)) 0 := by
  pointwise [k0_pay21, pay19]

/-- The hidden units' sum, a thousand at a time. -/
theorem sum_hid (h : Fin 1024 → EReal) (w1 : Vec Ideal S1024x4096 .bf16) (w2 : Vec Ideal S4096x1024 .bf16) (d : Fin 1024) :
    (∑ j, hid h (fun k j => w1 (ix2 k j)) j * w2 (ix2 j d))
      = (∑ t : Fin 1024, max (∑ k : Fin 1024, h k * cols w1 0 (by omega) (ix2 k t)) 0 * max (∑ k : Fin 1024, h k * cols w1 0 (by omega) (ix2 k t)) 0 * rows w2 0 (by omega) (ix2 t d))
        + (∑ t : Fin 1024, max (∑ k : Fin 1024, h k * cols w1 1024 (by omega) (ix2 k t)) 0 * max (∑ k : Fin 1024, h k * cols w1 1024 (by omega) (ix2 k t)) 0 * rows w2 1024 (by omega) (ix2 t d))
        + (∑ t : Fin 1024, max (∑ k : Fin 1024, h k * cols w1 2048 (by omega) (ix2 k t)) 0 * max (∑ k : Fin 1024, h k * cols w1 2048 (by omega) (ix2 k t)) 0 * rows w2 2048 (by omega) (ix2 t d))
        + (∑ t : Fin 1024, max (∑ k : Fin 1024, h k * cols w1 3072 (by omega) (ix2 k t)) 0 * max (∑ k : Fin 1024, h k * cols w1 3072 (by omega) (ix2 k t)) 0 * rows w2 3072 (by omega) (ix2 t d)) := by
  rw [Fin.sum_univ_tiles 4 1024 rfl, Fin.sum_univ_four]
  rfl

theorem tileOut_at (x : Vec Ideal S1024x1024 .f32) (g : Vec Ideal S2x1024 .f32)
    (w1 : Vec Ideal S1024x4096 .bf16) (w2 : Vec Ideal S4096x1024 .bf16) (r d : Fin 1024) :
    tileOut x g w1 w2 (ix2 r d)
      = layer (fun k => x (ix2 r k)) (fun k => g (ix2 0 k)) (fun k j => w1 (ix2 k j)) (fun j l => w2 (ix2 j l)) d := by
  have hgain : ∀ l : Fin 1024, gain g (ix2 0 l) = g (ix2 0 l) := fun l => rfl
  unfold layer
  simp only [sum_hid]
  pointwise [tileOut, k0_pay1, pay19, pay20, pay21, hgain, add_assoc]

end Kernel

section Ref
open Cert.FfnFirstReferenceIdeal Cert.FfnFirstReferenceIdeal.Gen

/-- The reference on the whole batch. -/
def rRes (x : FVec Ideal S2x8192x1024 .f32) (g : FVec Ideal S2x1024 .f32) (w1 : FVec Ideal S2x1024x4096 .f32) (w2 : FVec Ideal S2x4096x1024 .f32) : FVec Ideal S2x8192x1024 .f32 :=
  addf x (Host.dotGeneral dot_S2x8192x4096_S4096x1024_S2x8192x1024_2_0_01_1_n_n none
    (rHid (rNorm x (shapeCast _ (extractStridedSlice S1x1024 ![0, 0] g slices_S2x1024_S1x1024_0_0) shapeCasts_S1x1024_S1024))
      (shapeCast _ (extractStridedSlice S1x1024x4096 ![0, 0, 0] w1 slices_S2x1024x4096_S1x1024x4096_0_0_0) shapeCasts_S1x1024x4096_S1024x4096))
    (shapeCast _ (extractStridedSlice S1x4096x1024 ![0, 0, 0] w2 slices_S2x4096x1024_S1x4096x1024_0_0_0) shapeCasts_S1x4096x1024_S4096x1024))

/-- The reference's result. -/
def rOut (x : FVec Ideal S2x8192x1024 .f32) (g : FVec Ideal S2x1024 .f32) (w1 : FVec Ideal S2x1024x4096 .f32) (w2 : FVec Ideal S2x4096x1024 .f32) : FVec Ideal S16384x1024 .f32 :=
  shapeCast _ (rRes x g w1 w2) shapeCasts_S2x8192x1024_S16384x1024

theorem rRes_at (x : FVec Ideal S2x8192x1024 .f32) (g : FVec Ideal S2x1024 .f32) (w1 : FVec Ideal S2x1024x4096 .f32) (w2 : FVec Ideal S2x4096x1024 .f32) (b : Fin 2) (s : Fin 8192) (d : Fin 1024) :
    rRes x g w1 w2 (ix3 b s d) = x (ix3 b s d)
      + ∑ j, hid (rms (fun l => x (ix3 b s l)) (fun l => g (ix2 0 l))) (fun k j => w1 (ix3 0 k j)) j * w2 (ix3 0 j d) := by
  pointwise [rRes, rHid_at, rNorm_at]

theorem rOut_at (x : FVec Ideal S2x8192x1024 .f32) (g : FVec Ideal S2x1024 .f32) (w1 : FVec Ideal S2x1024x4096 .f32) (w2 : FVec Ideal S2x4096x1024 .f32) (n : Fin 16384) (d : Fin 1024) :
    rOut x g w1 w2 (ix2 n d)
      = layer (fun k => x (ix3 ⟨n.val / 8192, by omega⟩ ⟨n.val % 8192, by omega⟩ k)) (fun k => g (ix2 0 k)) (fun k j => w1 (ix3 0 k j)) (fun j l => w2 (ix3 0 j l)) d := by
  unfold layer
  pointwise [rOut, rRes_at]

end Ref

end Cert.FfnFirstPure

end
-- ==== Proof.FfnFirst.Value.lean ====
/- The first layer's feed-forward call's result array: block by block, the reference's result. -/
module

public import proofs.«01_k».proof.Proof.FfnFirst.Frame
public import proofs.«01_k».proof.Proof.FfnFirst.Pure
public import Idealize.ShloMosaic.Lib.Pipeline.ValueKit

@[expose] public section

set_option maxRecDepth 16384

noncomputable section

namespace Cert.FfnFirstIdeal.Result

open Idealize.ShloMosaic Idealize.ShloMosaic.TcCoe Idealize.SL.Sem
open Idealize.ShloMosaic.Pipeline (Dat)
open Cert.FfnFirstIdeal Cert.FfnFirstIdeal.Gen Cert.FfnFirstIdeal.Run Cert.FfnFirstPure

variable (m : (ℓ : Loc nD τ sig) → Buf (Elt Ideal) ℓ)

/-- The windows' block indices. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The reference's result over this program's arguments. -/
def Ref (c : Dev nD) : FVec Ideal S16384x1024 .f32 :=
  rOut (m ((c : Thread nD τ).loc main_arg0)) (m ((c : Thread nD τ).loc main_arg1)) (m ((c : Thread nD τ).loc main_arg2)) (m ((c : Thread nD τ).loc main_arg3))

theorem V_v1 (c : Dev nD) : V m c main_v1 = shapeCast S16384x1024 (m ((c : Thread nD τ).loc main_arg0) : FVec Ideal S2x8192x1024 .f32) shapeCasts_S2x8192x1024_S16384x1024 := by
  unfold V hostOps0; after_results_simp <;> rfl

/-- The row of the whole array that point `t`'s block holds as its row `r`. -/
def row (t : Fin cfg0.N) (r : Fin 1024) : Fin 16384 :=
  ⟨t.val * 1024 + r.val, by have h : t.val < 16 := lt_of_lt_of_eq t.isLt (show cfg0.N = 16 from N_0); omega⟩

/-- The flattened batch at a row. -/
theorem rows_at (X : FVec Ideal S2x8192x1024 .f32) (n : Fin 16384) (k : Fin 1024) :
    shapeCast S16384x1024 X shapeCasts_S2x8192x1024_S16384x1024 (ix2 n k) = X (ix3 ⟨n.val / 8192, by omega⟩ ⟨n.val % 8192, by omega⟩ k) := by
  pointwise []

theorem blk0 (c : Dev nD) (t : Fin cfg0.N) (r k : Fin 1024) :
    (iblk m c 0 t : Vec Ideal S1024x1024 .f32) (ix2 r k) = (m ((c : Thread nD τ).loc main_arg0) : FVec Ideal S2x8192x1024 .f32)
      (ix3 ⟨(row t r).val / 8192, by have := (row t r).isLt; omega⟩ ⟨(row t r).val % 8192, by omega⟩ k) := by
  have e : (iblk m c 0 t : Vec Ideal S1024x1024 .f32) (ix2 r k) = (V m c main_v1 : FVec Ideal S16384x1024 .f32) (ix2 (row t r) k) := by
    blk_ext [iblk, idx t, row]
  rw [e, V_v1]
  exact rows_at _ _ _

theorem blk1 (c : Dev nD) (t : Fin cfg0.N) (k : Fin 1024) :
    (iblk m c 1 t : Vec Ideal S2x1024 .f32) (ix2 0 k) = (m ((c : Thread nD τ).loc main_arg1) : FVec Ideal S2x1024 .f32) (ix2 0 k) := by
  blk_ext [iblk, V, idx t]

theorem point (c : Dev nD) (t : Fin cfg0.N) (y : S1024x1024.Idx) :
    outAt m c t y = Ref m c (((cfg0.win 3).blk t).view.emb y) := by
  have h : ∀ r d : Fin 1024, outAt m c t (ix2 r d) = Ref m c (((cfg0.win 3).blk t).view.emb (ix2 r d : S1024x1024.Idx)) := by
    intro r d
    have e : Ref m c (((cfg0.win 3).blk t).view.emb (ix2 r d : S1024x1024.Idx)) = Ref m c (ix2 (row t r) d) := by
      blk_ext [idx t, row]
    rw [e]
    unfold outAt Ref
    rw [tileOut_at, rOut_at]
    simp only [blk0, blk1]
    rw [V_main_arg2, V_main_arg3]
    rfl
  rw [eq_ix2 y]
  exact h _ _

theorem final (c : Dev nD) : (dats m 0 c).arrAt 3 (cfgs 0).N = Ref m c := by
  refine (dats m 0 c).arrAt_eq_of_covers 3 _ (by decide +kernel) fun t _ y => ?_
  blk_simp
  rw [after0_3]
  exact point m c t y

end Cert.FfnFirstIdeal.Result

end
-- ==== Proof.FfnFirst.Same.lean ====
/- The first layer's feed-forward kernel and its idealization have the same text: their body tables are equal, so a run of the
   one is a run of the other. -/
module

public import proofs.«01_k».proof.Proof.Gen.FfnFirst
public import proofs.«01_k».proof.Proof.Gen.FfnFirstIdeal

@[expose] public section

namespace Cert.FfnFirstSame

open Idealize.ShloMosaic

variable {F : FTy → Type} [FloatOps F]

-- the two programs' signatures unfold to the same literals
set_option backward.isDefEq.respectTransparency.types false in
/-- The kernels' bodies are one body. -/
theorem defs₀_eq : Cert.FfnFirst.defs₀ (F := F) = Cert.FfnFirstIdeal.defs₀ (F := F) := by
  refine congrArg Defs.onTc ?_
  funext l
  match l with
  | 0 => rfl

set_option backward.isDefEq.respectTransparency.types false in
/-- The two body tables, pipeline included. -/
theorem defs_eq : Cert.FfnFirst.defs (F := F) = Cert.FfnFirstIdeal.defs (F := F) :=
  congrArg (Pipeline.defs (Cert.FfnFirst.pcfgs (F := F))) defs₀_eq

end Cert.FfnFirstSame

end
-- ==== Proof.Mix.Lang.lean ====
/- Straight-line programs over the mixer's buffers: what one computes as a function of their contents, and that the
   printed form of it runs to just that. -/
module

public import proofs.«01_k».proof.Proof.Gen.MixIdeal.Frame
public import Idealize.ShloMosaic.Lib.Pipeline.FrameBody

@[expose] public section

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.MixIdeal Cert.MixIdeal.K0.Facts₀ Cert.MixIdeal.Shapes1.Facts₀ Cert.MixIdeal.Shapes2.Facts₀

variable {F : FTy → Type} [FloatOps F]

local notation "𝕄" => MT nD τ sig Unit (Elt F) ℕ (Pipeline.UD sig nD τ) ℕ

/-- The twenty buffers the body reads or writes by loads and stores. -/
inductive Slot | x | g | cw | cb | lng | lnb | rg | cos | sin | dm | wq | wk | gl | out | win | wout | hb | cv | ab | st
  deriving DecidableEq

instance : Fintype Slot where
  elems := {.x, .g, .cw, .cb, .lng, .lnb, .rg, .cos, .sin, .dm, .wq, .wk, .gl, .out, .win, .wout, .hb, .cv, .ab, .st}
  complete s := by cases s <;> decide

/-- The shape of each. -/
abbrev Slot.sh : Slot → Shape
  | .x => S1024x1024 | .g => S2x1024 | .cw => S1x31x512 | .cb => S2x512 | .lng => S2x512 | .lnb => S2x512 | .rg => S2x512
  | .cos => S1024x256 | .sin => S1024x256 | .dm => S4x256x256 | .wq => S256x512 | .wk => S256x512 | .gl => S4x1x128
  | .out => S1024x1024 | .win => S1024x3072 | .wout => S1024x1024 | .hb => S2x1088x512 | .cv => S1024x512 | .ab => S1024x1024 | .st => S4x128x128

/-- The element type of each. -/
abbrev Slot.ty : Slot → EltTy
  | .win => .bf16 | .wout => .bf16 | .ab => .bf16 | _ => .f32

/-- Where the twenty buffers are. -/
abbrev Mem := (s : Slot) → Memref sig .tc .vmem s.sh s.ty

/-- A program of the body. -/
abbrev PG (F : FTy → Type) (α : Type) := Prog (TpuEff nD τ sig (Elt F) Λ₀ .tc) α

/-- What the twenty buffers hold. -/
abbrev Mst (F : FTy → Type) := (s : Slot) → s.sh.Idx → Elt F s.ty

/-- A straight-line program: loads and unmasked stores, each with its evidence for any place of the buffers. -/
inductive Cmd (F : FTy → Type) (α : Type) : Type
  | ret (a : α) : Cmd F α
  | ld (s : Slot) (r : Rect s.sh) (h : ∀ M : Mem, (M s).view.LoadsAt r.toLoadRect) (k : (r.toLoadRect.shape.Idx → Elt F s.ty) → Cmd F α) : Cmd F α
  | st (s : Slot) (r : Rect s.sh) (w : r.shape.Idx → Elt F s.ty) (h : ∀ M : Mem, (M .ab).IsWhole → ((M s).access r).Stores Finset.univ) (k : Cmd F α) : Cmd F α

/-- One after the other. -/
def Cmd.bind {α β : Type} : Cmd F α → (α → Cmd F β) → Cmd F β
  | .ret a, f => f a
  | .ld s r h k, f => .ld s r h fun x => (k x).bind f
  | .st s r w h k, f => .st s r w h (k.bind f)

instance : Monad (Cmd F) where
  pure := .ret
  bind := Cmd.bind

/-- One load. -/
def rd (s : Slot) (r : Rect s.sh) (h : ∀ M : Mem, (M s).view.LoadsAt r.toLoadRect) : Cmd F (r.shape.Idx → Elt F s.ty) := .ld s r h .ret

/-- One store. -/
def wrs (s : Slot) (r : Rect s.sh) (w : r.shape.Idx → Elt F s.ty) (h : ∀ M : Mem, (M .ab).IsWhole → ((M s).access r).Stores Finset.univ) : Cmd F Unit :=
  .st s r w h (.ret ⟨⟩)

/-- The printed form at the places `M`. -/
def Cmd.prog (M : Mem) (hab : (M .ab).IsWhole) {α : Type} : Cmd F α → PG F α
  | .ret a => .ret a
  | .ld s r h k => .op (.load (M s) r.toLoadRect (h M)) fun x => (k x).prog M hab
  | .st s r w h k => .op (.store (M s) r w Finset.univ (h M hab) (.inl rfl)) fun _ => k.prog M hab

/-- A buffer overwritten. -/
def put (σ : Mst F) (s : Slot) (X : s.sh.Idx → Elt F s.ty) : Mst F := Function.update σ s X

/-- What it computes, and what it leaves. -/
def Cmd.run {α : Type} : Cmd F α → Mst F → α × Mst F
  | .ret a, σ => (a, σ)
  | .ld s r h k, σ => (k (View.ld (σ s) r)).run σ
  | .st s r w h k, σ => k.run (put σ s (r.overlay (σ s) w))

@[simp] theorem run_pure {α : Type} (a : α) (σ : Mst F) : (pure a : Cmd F α).run σ = (a, σ) := rfl

@[simp] theorem run_bind {α β : Type} (p : Cmd F α) (f : α → Cmd F β) (σ : Mst F) : (p >>= f).run σ = (f (p.run σ).1).run (p.run σ).2 := by
  show (p.bind f).run σ = _
  induction p generalizing σ with
  | ret a => rfl
  | ld s r h k ih => exact ih _ _
  | st s r w h k ih => exact ih _

@[simp] theorem run_rd (s : Slot) (r : Rect s.sh) (h : ∀ M : Mem, (M s).view.LoadsAt r.toLoadRect) (σ : Mst F) :
    (rd s r h).run σ = (View.ld (σ s) r, σ) := rfl

@[simp] theorem run_wrs (s : Slot) (r : Rect s.sh) (w : r.shape.Idx → Elt F s.ty) (h) (σ : Mst F) :
    (wrs s r w h).run σ = ((), put σ s (r.overlay (σ s) w)) := rfl

/-- The twenty buffers held whole. -/
def held (c : Dev nD) (M : Mem) (σ : Mst F) : sProp 𝕄 := bigSep Finset.univ fun s : Slot => owns (c : Thread nD τ) (M s) fullShare (σ s)

theorem read_store {sp : Space} {sh : Shape} {e : EltTy} (m : Memref sig .tc sp sh e) (r : Rect sh) (f : m.view.ty.Contents (Elt F)) (w : r.shape.Idx → Elt F e) :
    m.view.read (Elt F) ((m.access r).write (Elt F) f w Finset.univ) = r.overlay (m.view.read (Elt F) f) w := by
  funext y
  by_cases h : y ∈ r.set
  · obtain ⟨x, -, rfl⟩ := Finset.mem_map.mp (by rw [← Rect.map_emb_univ] at h; exact h)
    rw [Rect.overlay_emb]
    exact View.read_slice_write_emb r f w (Finset.mem_univ x)
  · rw [Rect.overlay_of_not_mem _ _ _ h]
    exact View.read_slice_write_of_not_mem r f w _ (by rw [Rect.map_emb_univ]; exact h)

/-- The printed form runs to what the program computes. -/
theorem prog_run (c : Dev nD) (M : Mem) (hab : (M .ab).IsWhole) {α : Type} (p : Cmd F α) (σ : Mst F) (Q : α → sProp 𝕄) :
    iprop(held c M σ ∗ (held c M (p.run σ).2 -∗ Q (p.run σ).1)) ⊢ wp frame (wpE (defs₀ (F := F)) Variants.none (c : Thread nD τ) none) Set.univ (p.prog M hab) Q := by
  induction p generalizing σ with
  | ret a =>
    unfold Cmd.prog Cmd.run
    iintro ⟨H, K⟩
    rw [wp_ret]
    imodintro
    iapply K; iexact H
  | ld s r h k ih =>
    unfold Cmd.prog Cmd.run
    iintro ⟨H, K⟩
    unfold held
    ihave ⟨Ho, Hback⟩ := (bigSep_univ_update (Φ := fun s : Slot => owns (c : Thread nD τ) (M s) fullShare (σ s)) (Ψ := fun s : Slot => owns (c : Thread nD τ) (M s) fullShare (σ s)) s (fun _ _ => rfl)) $$ H
    unfold owns
    icases Ho with ⟨%f, %hf, Ho⟩
    iapply (wp_load Variants.none (c : Thread nD τ) none Set.univ (m := M s) (r := r.toLoadRect) (S := (M s).view.set) ((M s).view.setOn_subset_set _)) $$ Ho
    iintro Ho
    rw [View.readAt_eq_ld, hf]
    iapply ih
    unfold held owns
    isplitl [Ho Hback]
    · iapply Hback
      iexists f; isplitr; · ipureintro; exact hf
      iexact Ho
    iexact K
  | st s r w h k ih =>
    unfold Cmd.prog Cmd.run
    iintro ⟨H, K⟩
    unfold held
    ihave ⟨Ho, Hback⟩ := (bigSep_univ_update (Φ := fun s : Slot => owns (c : Thread nD τ) (M s) fullShare (σ s)) (Ψ := fun s' : Slot => owns (c : Thread nD τ) (M s') fullShare (put σ s (r.overlay (σ s) w) s')) s
      (fun j hj => by unfold put; rw [Function.update_of_ne hj])) $$ H
    unfold owns
    icases Ho with ⟨%f, %hf, Ho⟩
    iapply (wp_store Variants.none (c : Thread nD τ) none Set.univ (m := M s) (r := r) (w := w) (Mk := Finset.univ) (S := (M s).view.set) ((View.setOn_subset_set _ _).trans (View.set_slice_subset _ _))) $$ Ho
    iintro Ho
    iapply ih
    unfold held owns
    isplitl [Ho Hback]
    · iapply Hback
      iexists _; isplitr; swap; · iexact Ho
      ipureintro
      rw [read_store, hf]
      unfold put; rw [Function.update_self]
    iexact K

end Cert.MixIdeal.Run

end
-- ==== Proof.Mix.Body.lean ====
/- The mixer's body written with loops over its row and lane blocks, over any family of its buffers. -/
module

public import proofs.«01_k».proof.Proof.Mix.Lang

@[expose] public section

set_option maxRecDepth 16384

noncomputable section

namespace Cert.MixIdeal.Run

open Idealize.ShloMosaic Idealize.SL.Sem
open Cert.MixIdeal
open Cert.MixIdeal.K0.Facts₀ Cert.MixIdeal.Shapes1.Facts₀ Cert.MixIdeal.Shapes2.Facts₀

variable {F : FTy → Type} [FloatOps F]

/-- `f` at `k`, `k+1`, … up to `N`, threading a value. -/
def loopN {α : Type} {N : ℕ} (f : (i : ℕ) → i < N → α → Cmd F α) : (n k : ℕ) → k + n = N → α → Cmd F α
  | 0, _, _, a => pure a
  | n + 1, k, h, a => f k (by omega) a >>= fun b => loopN f n (k + 1) (by omega) b

theorem inb2 {o0 o1 s0 s1 d0 d1 : ℕ} (h0 : o0 + s0 ≤ d0) (h1 : o1 + s1 ≤ d1) :
    ∀ a : Fin 2, (![o0, o1] : Fin 2 → ℕ) a + (![s0, s1] : Fin 2 → ℕ) a ≤ (![d0, d1] : Fin 2 → ℕ) a := fun a => match a with
  | ⟨0, _⟩ => h0
  | ⟨1, _⟩ => h1

theorem inb3 {o0 o1 o2 s0 s1 s2 d0 d1 d2 : ℕ} (h0 : o0 + s0 ≤ d0) (h1 : o1 + s1 ≤ d1) (h2 : o2 + s2 ≤ d2) :
    ∀ a : Fin 3, (![o0, o1, o2] : Fin 3 → ℕ) a + (![s0, s1, s2] : Fin 3 → ℕ) a ≤ (![d0, d1, d2] : Fin 3 → ℕ) a := fun a => match a with
  | ⟨0, _⟩ => h0
  | ⟨1, _⟩ => h1
  | ⟨2, _⟩ => h2

theorem slices2 {d0 d1 o0 o1 s0 s1 : ℕ} (h0 : o0 + s0 ≤ d0) (h1 : o1 + s1 ≤ d1) :
    (⟨2, ![d0, d1]⟩ : Shape).Slices ![o0, o1] ⟨2, ![s0, s1]⟩ := ⟨rfl, fun a => inb2 h0 h1 a⟩

/-- The two-dimensional shape. -/
abbrev Sh2 (n k : ℕ) : Shape := ⟨2, ![n, k]⟩
/-- One slab of it. -/
abbrev Sh3 (n k : ℕ) : Shape := ⟨3, ![1, n, k]⟩

/-- Tap `t` of phase `b` over `n` rows: the shifted rows of the group's input times the tap's weights. -/
def tap (n : ℕ) (hp : 0 < (Sh3 n 128).numel) (hc : (Sh3 n 128).ShapeCasts (Sh2 n 128)) (hb : S1x128.Broadcasts (Sh2 n 128))
    (b base lane : ℕ) (h1 : base + n ≤ 1088) (h2 : lane + 128 ≤ 512) (t : ℕ) : Cmd F (FVec F (Sh2 n 128) .f32) := do
  let v : Vec F (Sh3 n 128) .f32 ← rd .hb (Rect.unit (s := S2x1088x512) ![t % 2, base - 8 * (t / 2), lane] (Sh3 n 128).size
    (inb3 (by omega) (by omega) h2)) (fun _ => View.loadsAt_vmem hp)
  let w : Vec F S1x1x128 .f32 ← rd .cw (Rect.unit (s := S1x31x512) ![0, 30 - (4 * t + b), lane] S1x1x128.size
    (inb3 (by omega) (by omega) h2)) (fun _ => View.loadsAt_vmem h_S1x1x128)
  pure (mulf (shapeCast (Sh2 n 128) v hc) (broadcastTo (Sh2 n 128) (shapeCast S1x128 w shapeCasts_S1x1x128_S1x128) hb))

/-- The partial sum of phase `b`: its taps in order. -/
def psum (n : ℕ) (hp : 0 < (Sh3 n 128).numel) (hc : (Sh3 n 128).ShapeCasts (Sh2 n 128)) (hb : S1x128.Broadcasts (Sh2 n 128))
    (b base lane : ℕ) (h1 : base + n ≤ 1088) (h2 : lane + 128 ≤ 512) (taps : ℕ) : Cmd F (FVec F (Sh2 n 128) .f32) := do
  let a ← tap n hp hc hb b base lane h1 h2 0
  loopN (N := 1 + taps) (fun t _ acc => do
    let v ← tap n hp hc hb b base lane h1 h2 t
    pure (addf acc v)) taps 1 rfl a

/-- Eight rows. -/
def psum8 (b base lane : ℕ) (h1 : base + 8 ≤ 1088) (h2 : lane + 128 ≤ 512) (taps : ℕ) : Cmd F (FVec F S8x128 .f32) :=
  psum 8 h_S1x8x128 shapeCasts_S1x8x128_S8x128 broadcasts_S1x128_S8x128 b base lane h1 h2 taps
/-- Sixty-four rows. -/
def psum64 (b base lane : ℕ) (h1 : base + 64 ≤ 1088) (h2 : lane + 128 ≤ 512) (taps : ℕ) : Cmd F (FVec F S64x128 .f32) :=
  psum 64 h_S1x64x128 shapeCasts_S1x64x128_S64x128 broadcasts_S1x128_S64x128 b base lane h1 h2 taps

/-- A phase's partial sums delayed by `k` rows, the rows before them in `h`. -/
def delay (o : ℕ) (ho : o + 64 ≤ 72) (h : FVec F S8x128 .f32) (p : FVec F S64x128 .f32) : FVec F S64x128 .f32 :=
  extractStridedSlice S64x128 ![o, 0] (concatenate S72x128 0 [⟨S8x128, h⟩, ⟨S64x128, p⟩] concatenates_S8x128_S64x128_S72x128_d0) (slices2 ho (by omega))

/-- The last eight rows of a phase's partial sums. -/
def tail8 (p : FVec F S64x128 .f32) : FVec F S8x128 .f32 := extractStridedSlice S8x128 ![56, 0] p slices_S64x128_o56_0_S8x128

/-- One block of sixty-four rows of the convolution. -/
def convBlock (lane : ℕ) (h2 : lane + 128 ≤ 512) (rb : ℕ) (hrb : rb < 16) (hd : FVec F S8x128 .f32 × FVec F S8x128 .f32 × FVec F S8x128 .f32) :
    Cmd F (FVec F S8x128 .f32 × FVec F S8x128 .f32 × FVec F S8x128 .f32) := do
  let a0 ← psum64 0 (32 + 64 * rb) lane (by omega) h2 7
  let p1 ← psum64 1 (32 + 64 * rb) lane (by omega) h2 7
  let p2 ← psum64 2 (32 + 64 * rb) lane (by omega) h2 7
  let p3 ← psum64 3 (32 + 64 * rb) lane (by omega) h2 6
  let _v : Vec F S64x128 .f32 ← rd .cv (Rect.unit (s := S1024x512) ![64 * rb, lane] S64x128.size (inb2 (by omega) h2)) (fun _ => View.loadsAt_vmem h_S64x128)
  wrs .cv (Rect.unit (s := S1024x512) ![64 * rb, lane] S64x128.size (inb2 (by omega) h2))
    (shapeCast S64x128 (addf (addf (addf a0 (delay 7 (by omega) hd.1 p1)) (delay 6 (by omega) hd.2.1 p2)) (delay 5 (by omega) hd.2.2 p3)) shapeCasts_S64x128_S64x128)
    (fun _ hab => (View.stores_vmem_bits_univ h_S64x128 rfl))
  pure (tail8 p1, tail8 p2, tail8 p3)

/-- One lane block of the convolution. -/
def convLane (cb : ℕ) (hcb : cb < 4) (_ : Unit) : Cmd F Unit := do
  let p1 ← psum8 1 24 (128 * cb) (by omega) (by omega) 7
  let p2 ← psum8 2 24 (128 * cb) (by omega) (by omega) 7
  let p3 ← psum8 3 24 (128 * cb) (by omega) (by omega) 6
  let _ ← loopN (fun rb h hd => convBlock (128 * cb) (by omega) rb h hd) 16 0 rfl (p1, p2, p3)
  pure ()

/-- Rows `128 rc …` of the gated input of the convolution group, stored in both copies. -/
def gluBlock (hn : FVec F S1024x1024 .bf16) (rc : ℕ) (hrc : rc < 8) (_ : Unit) : Cmd F Unit := do
  let w : Vec F S1024x1024 .bf16 ← rd .win (Rect.unit (s := S1024x3072) ![0, 0] S1024x1024.size inb_S1024x3072_S1024x1024_0_0) (fun _ => View.loadsAt_vmem h_S1024x1024)
  let uc : FVec F S128x1024 .f32 := matmul dot_S128x1024_S1024x1024_S128x1024_1_0_0_1_n_n none (extractStridedSlice S128x1024 ![128 * rc, 0] hn (slices2 (by omega) (by omega))) w (constant S128x1024 .f32 0x00000000#32)
  let hg : FVec F S128x512 .f32 := mulf (extractStridedSlice S128x512 ![0, 0] uc slices_S128x1024_o0_0_S128x512) (logistic (extractStridedSlice S128x512 ![0, 512] uc slices_S128x1024_o0_512_S128x512))
  let _v : Vec F S1x128x512 .f32 ← rd .hb (Rect.unit (s := S2x1088x512) ![0, 32 + 128 * rc, 0] S1x128x512.size (inb3 (by omega) (by omega) (by omega))) (fun _ => View.loadsAt_vmem h_S1x128x512)
  wrs .hb (Rect.unit (s := S2x1088x512) ![0, 32 + 128 * rc, 0] S1x128x512.size (inb3 (by omega) (by omega) (by omega)))
    (shapeCast S1x128x512 hg shapeCasts_S128x512_S1x128x512) (fun _ hab => (View.stores_vmem_bits_univ h_S1x128x512 rfl))
  let _v : Vec F S1x128x512 .f32 ← rd .hb (Rect.unit (s := S2x1088x512) ![1, 36 + 128 * rc, 0] S1x128x512.size (inb3 (by omega) (by omega) (by omega))) (fun _ => View.loadsAt_vmem h_S1x128x512)
  wrs .hb (Rect.unit (s := S2x1088x512) ![1, 36 + 128 * rc, 0] S1x128x512.size (inb3 (by omega) (by omega) (by omega)))
    (shapeCast S1x128x512 hg shapeCasts_S128x512_S1x128x512) (fun _ hab => (View.stores_vmem_bits_univ h_S1x128x512 rfl))

/-- The rows of the block scaled by their root mean square and the layer's gain. -/
def normed (x : FVec F S1024x1024 .f32) (g : FVec F S1x1024 .f32) : FVec F S1024x1024 .bf16 :=
  truncf .bf16 (mulf (mulf x (broadcastTo S1024x1024 (rsqrt (addf (divf (shapeCast S1024x1 (multiReduction .add [1] S1024 (mulf x x) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)) (broadcastTo S1024x1024 g broadcasts_S1x1024_S1024x1024)) bitsLt_bf16_f32

/-- A value centred along its rows. -/
def centred (c : FVec F S1024x512 .f32) : FVec F S1024x512 .f32 :=
  subf c (broadcastTo S1024x512 (divf (shapeCast S1024x1 (multiReduction .add [1] S1024 c 0x00000000#32 reduces_S1024x512_S1024 (.inl rfl) rfl) shapeCasts_S1024_S1024x1)
    (broadcast S1024x1 (Scalar.ofBits .f32 0x44000000#32))) broadcasts_S1024x1_S1024x512)

/-- The convolution group's output: centred, scaled, shifted and gated by itself. -/
def convOut (c : FVec F S1024x512 .f32) (g b : FVec F S1x512 .f32) : FVec F S1024x512 .f32 :=
  let cc : FVec F S1024x512 .f32 := centred c
  let a : FVec F S1024x512 .f32 := addf (mulf (mulf cc (broadcastTo S1024x512 (rsqrt (addf (divf (shapeCast S1024x1 (multiReduction .add [1] S1024 (mulf cc cc) 0x00000000#32 reduces_S1024x512_S1024 (.inl rfl) rfl) shapeCasts_S1024_S1024x1)
    (broadcast S1024x1 (Scalar.ofBits .f32 0x44000000#32))) (broadcast S1024x1 (Scalar.ofBits .f32 0x358637BD#32)))) broadcasts_S1024x1_S1024x512)) (broadcastTo S1024x512 g broadcasts_S1x512_S1024x512)) (broadcastTo S1024x512 b broadcasts_S1x512_S1024x512)
  mulf a (logistic a)

/-- A head's output scaled by its root mean square and gain, gated. -/
def headOut (o : FVec F S256x128 .f32) (g : FVec F S1x128 .f32) (z : FVec F S256x128 .f32) : FVec F S256x128 .bf16 :=
  truncf .bf16 (mulf (mulf (mulf o (broadcastTo S256x128 (rsqrt (addf (divf (shapeCast S256x1 (multiReduction .add [1] S256 (mulf o o) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)) (broadcastTo S256x128 g broadcasts_S1x128_S256x128)) (mulf z (logistic z))) bitsLt_bf16_f32

/-- A head's rows turned by their positions. -/
def turned (q c s : FVec F S256x128 .f32) : FVec F S256x128 .f32 :=
  addf (mulf q c) (mulf (dynamicRotate 1 64#32 none q rotates_S256x128_d1) s)

theorem packedAb (blk hd : ℕ) (hb : blk < 4) (hh : hd < 4) (h : ∀ a, (![256 * blk, 512 + 128 * hd] : Fin 2 → ℕ) a + S256x128.size a ≤ S1024x1024.size a) :
    (Rect.unit (s := S1024x1024) ![256 * blk, 512 + 128 * hd] S256x128.size h).PackedRows (EltTy.packing .bf16) :=
  .inr ⟨le_refl 2, rfl, .inl ⟨⟨128 * blk, by show 256 * blk = 2 * (128 * blk); omega⟩, ⟨128, rfl⟩⟩⟩

/-- One head of one block of 256 rows of the retention. -/
def retHead (u : FVec F S1024x2048 .f32) (blk : ℕ) (hb : blk < 4) (cos cosk sin sink : FVec F S256x128 .f32) (hd : ℕ) (hh : hd < 4) (_ : Unit) : Cmd F Unit := do
  let q : FVec F S256x128 .f32 := extractStridedSlice S256x128 ![256 * blk, 128 * hd] u (slices2 (by omega) (by omega))
  let k : FVec F S256x128 .f32 := extractStridedSlice S256x128 ![256 * blk, 512 + 128 * hd] u (slices2 (by omega) (by omega))
  let v : FVec F S256x128 .f32 := extractStridedSlice S256x128 ![256 * blk, 1024 + 128 * hd] u (slices2 (by omega) (by omega))
  let z : FVec F S256x128 .f32 := extractStridedSlice S256x128 ![256 * blk, 1536 + 128 * hd] u (slices2 (by omega) (by omega))
  let qr : FVec F S256x128 .f32 := turned q cos sin
  let kr : FVec F S256x128 .f32 := turned k cosk sink
  let vb : FVec F S256x128 .bf16 := truncf .bf16 v bitsLt_bf16_f32
  let s : FVec F S256x256 .f32 := matmul dot_S256x128_S256x128_S256x256_1_1_0_0_n_n none qr (truncf .bf16 kr bitsLt_bf16_f32) (constant S256x256 .f32 0x00000000#32)
  let dm : Vec F S1x256x256 .f32 ← rd .dm (Rect.unit (s := S4x256x256) ![hd, 0, 0] S1x256x256.size (inb3 (by omega) (by omega) (by omega))) (fun _ => View.loadsAt_vmem h_S1x256x256)
  let st0 : Vec F S1x128x128 .f32 ← rd .st (Rect.unit (s := S4x128x128) ![hd, 0, 0] S1x128x128.size (inb3 (by omega) (by omega) (by omega))) (fun _ => View.loadsAt_vmem h_S1x128x128)
  let st : FVec F S128x128 .f32 := shapeCast S128x128 st0 shapeCasts_S1x128x128_S128x128
  let wq : Vec F S256x128 .f32 ← rd .wq (Rect.unit (s := S256x512) ![0, 128 * hd] S256x128.size (inb2 (by omega) (by omega))) (fun _ => View.loadsAt_vmem h_S256x128)
  let o : FVec F S256x128 .f32 := addf (matmul dot_S256x256_S256x128_S256x128_1_0_0_1_n_n none (mulf s (shapeCast S256x256 dm shapeCasts_S1x256x256_S256x256)) vb (constant S256x128 .f32 0x00000000#32))
    (matmul dot_S256x128_S128x128_S256x128_1_0_0_1_n_n none (mulf qr (shapeCast S256x128 wq shapeCasts_S256x128_S256x128)) (truncf .bf16 st bitsLt_bf16_f32) (constant S256x128 .f32 0x00000000#32))
  let wk : Vec F S256x128 .f32 ← rd .wk (Rect.unit (s := S256x512) ![0, 128 * hd] S256x128.size (inb2 (by omega) (by omega))) (fun _ => View.loadsAt_vmem h_S256x128)
  let gl : Vec F S1x1x128 .f32 ← rd .gl (Rect.unit (s := S4x1x128) ![hd, 0, 0] S1x1x128.size (inb3 (by omega) (by omega) (by omega))) (fun _ => View.loadsAt_vmem h_S1x1x128)
  let st' : FVec F S128x128 .f32 := addf (mulf st (broadcastTo S128x128 (shapeCast S1x128 gl shapeCasts_S1x1x128_S1x128) broadcasts_S1x128_S128x128))
    (matmul dot_S256x128_S256x128_S128x128_0_0_1_1_n_n none (truncf .bf16 (mulf kr (shapeCast S256x128 wk shapeCasts_S256x128_S256x128)) bitsLt_bf16_f32) vb (constant S128x128 .f32 0x00000000#32))
  let _v : Vec F S1x128x128 .f32 ← rd .st (Rect.unit (s := S4x128x128) ![hd, 0, 0] S1x128x128.size (inb3 (by omega) (by omega) (by omega))) (fun _ => View.loadsAt_vmem h_S1x128x128)
  wrs .st (Rect.unit (s := S4x128x128) ![hd, 0, 0] S1x128x128.size (inb3 (by omega) (by omega) (by omega)))
    (shapeCast S1x128x128 st' shapeCasts_S128x128_S1x128x128) (fun _ hab => (View.stores_vmem_bits_univ h_S1x128x128 rfl))
  let rg : Vec F S1x128 .f32 ← rd .rg (Rect.unit (s := S2x512) ![0, 128 * hd] S1x128.size (inb2 (by omega) (by omega))) (fun _ => View.loadsAt_vmem h_S1x128)
  let _v : Vec F S256x128 .bf16 ← rd .ab (Rect.unit (s := S1024x1024) ![256 * blk, 512 + 128 * hd] S256x128.size (inb2 (by omega) (by omega))) (fun _ => View.loadsAt_vmem h_S256x128)
  wrs .ab (Rect.unit (s := S1024x1024) ![256 * blk, 512 + 128 * hd] S256x128.size (inb2 (by omega) (by omega)))
    (shapeCast S256x128 (headOut o rg z) shapeCasts_S256x128_S256x128) (fun _ hab => (View.stores_vmem h_S256x128 (hab.storeExact_slice rfl _ (packedAb blk hd hb hh _)) (fun _ => rfl)))

/-- One block of 256 rows of the retention. -/
def retBlock (u : FVec F S1024x2048 .f32) (blk : ℕ) (hb : blk < 4) : Cmd F Unit := do
  let cos : Vec F S256x128 .f32 ← rd .cos (Rect.unit (s := S1024x256) ![256 * blk, 0] S256x128.size (inb2 (by omega) (by omega))) (fun _ => View.loadsAt_vmem h_S256x128)
  let cosk : Vec F S256x128 .f32 ← rd .cos (Rect.unit (s := S1024x256) ![256 * blk, 128] S256x128.size (inb2 (by omega) (by omega))) (fun _ => View.loadsAt_vmem h_S256x128)
  let sin : Vec F S256x128 .f32 ← rd .sin (Rect.unit (s := S1024x256) ![256 * blk, 0] S256x128.size (inb2 (by omega) (by omega))) (fun _ => View.loadsAt_vmem h_S256x128)
  let sink : Vec F S256x128 .f32 ← rd .sin (Rect.unit (s := S1024x256) ![256 * blk, 128] S256x128.size (inb2 (by omega) (by omega))) (fun _ => View.loadsAt_vmem h_S256x128)
  loopN (fun hd hh a => retHead  u blk hb (shapeCast S256x128 cos shapeCasts_S256x128_S256x128) (shapeCast S256x128 cosk shapeCasts_S256x128_S256x128)
    (shapeCast S256x128 sin shapeCasts_S256x128_S256x128) (shapeCast S256x128 sink shapeCasts_S256x128_S256x128) hd hh a) 4 0 rfl ()

/-- Half of the rows: two blocks of the retention, then the output projection of the half. -/
def half (x : FVec F S1024x1024 .f32) (u : FVec F S1024x2048 .f32) (h : ℕ) (hh : h < 2) (_ : Unit) : Cmd F Unit := do
  retBlock  u (2 * h) (by omega)
  retBlock  u (2 * h + 1) (by omega)
  let a : Vec F S512x1024 .bf16 ← rd .ab (Rect.unit (s := S1024x1024) ![512 * h, 0] S512x1024.size (inb2 (by omega) (by omega))) (fun _ => View.loadsAt_vmem h_S512x1024)
  let w : Vec F S1024x1024 .bf16 ← rd .wout (Rect.unit (s := S1024x1024) ![0, 0] S1024x1024.size inb_S1024x1024_S1024x1024_0_0) (fun _ => View.loadsAt_vmem h_S1024x1024)
  let _v : Vec F S512x1024 .f32 ← rd .out (Rect.unit (s := S1024x1024) ![512 * h, 0] S512x1024.size (inb2 (by omega) (by omega))) (fun _ => View.loadsAt_vmem h_S512x1024)
  wrs .out (Rect.unit (s := S1024x1024) ![512 * h, 0] S512x1024.size (inb2 (by omega) (by omega)))
    (addf (extractStridedSlice S512x1024 ![512 * h, 0] x (slices2 (by omega) (by omega))) (matmul dot_S512x1024_S1024x1024_S512x1024_1_0_0_1_n_n none a w (constant S512x1024 .f32 0x00000000#32)))
    (fun _ hab => (View.stores_vmem_bits_univ h_S512x1024 rfl))

/-- The convolution group after its input is stored: the sums, the last rows kept, the output. -/
def convTail : Cmd F Unit := do
  let t : Vec F S2x40x512 .f32 ← rd .hb (Rect.unit (s := S2x1088x512) ![0, 1024, 0] S2x40x512.size inb_S2x1088x512_S2x40x512_0_1024_0) (fun _ => View.loadsAt_vmem h_S2x40x512)
  let _v : Vec F S2x40x512 .f32 ← rd .hb (Rect.unit (s := S2x1088x512) ![0, 0, 0] S2x40x512.size inb_S2x1088x512_S2x40x512_0_0_0) (fun _ => View.loadsAt_vmem h_S2x40x512)
  wrs .hb (Rect.unit (s := S2x1088x512) ![0, 0, 0] S2x40x512.size inb_S2x1088x512_S2x40x512_0_0_0) (shapeCast S2x40x512 t shapeCasts_S2x40x512_S2x40x512) (fun _ hab => (View.stores_vmem_bits_univ h_S2x40x512 rfl))
  let c : Vec F S1024x512 .f32 ← rd .cv (Rect.unit (s := S1024x512) ![0, 0] S1024x512.size inb_S1024x512_S1024x512_0_0) (fun _ => View.loadsAt_vmem h_S1024x512)
  let b : Vec F S1x512 .f32 ← rd .cb (Rect.unit (s := S2x512) ![0, 0] S1x512.size inb_S2x512_S1x512_0_0) (fun _ => View.loadsAt_vmem h_S1x512)
  let lg : Vec F S1x512 .f32 ← rd .lng (Rect.unit (s := S2x512) ![0, 0] S1x512.size inb_S2x512_S1x512_0_0) (fun _ => View.loadsAt_vmem h_S1x512)
  let lb : Vec F S1x512 .f32 ← rd .lnb (Rect.unit (s := S2x512) ![0, 0] S1x512.size inb_S2x512_S1x512_0_0) (fun _ => View.loadsAt_vmem h_S1x512)
  let _v : Vec F S1024x512 .bf16 ← rd .ab (Rect.unit (s := S1024x1024) ![0, 0] S1024x512.size inb_S1024x1024_S1024x512_0_0) (fun _ => View.loadsAt_vmem h_S1024x512)
  wrs .ab (Rect.unit (s := S1024x1024) ![0, 0] S1024x512.size inb_S1024x1024_S1024x512_0_0)
    (shapeCast S1024x512 (truncf .bf16 (convOut (addf c (broadcastTo S1024x512 b broadcasts_S1x512_S1024x512)) lg lb) bitsLt_bf16_f32) shapeCasts_S1024x512_S1024x512)
    (fun _ hab => (View.stores_vmem h_S1024x512 (hab.storeExact_slice rfl _ packedbf16_S1024x1024_S1024x512_0_0) (fun _ => rfl)))

/-- The body after its two conditional regions. -/
def mainBody : Cmd F Unit := do
  let x0 : Vec F S1024x1024 .f32 ← rd .x (Rect.unit (s := S1024x1024) ![0, 0] S1024x1024.size inb_S1024x1024_S1024x1024_0_0) (fun _ => View.loadsAt_vmem h_S1024x1024)
  let x : FVec F S1024x1024 .f32 := shapeCast S1024x1024 x0 shapeCasts_S1024x1024_S1024x1024
  let g : Vec F S1x1024 .f32 ← rd .g (Rect.unit (s := S2x1024) ![0, 0] S1x1024.size inb_S2x1024_S1x1024_0_0) (fun _ => View.loadsAt_vmem h_S1x1024)
  let hn : FVec F S1024x1024 .bf16 := normed x g
  loopN (fun rc h a => gluBlock hn rc h a) 8 0 rfl ()
  let w : Vec F S1024x2048 .bf16 ← rd .win (Rect.unit (s := S1024x3072) ![0, 1024] S1024x2048.size inb_S1024x3072_S1024x2048_0_1024) (fun _ => View.loadsAt_vmem h_S1024x2048)
  let u : FVec F S1024x2048 .f32 := matmul dot_S1024x1024_S1024x2048_S1024x2048_1_0_0_1_n_n none hn w (constant S1024x2048 .f32 0x00000000#32)
  loopN (fun cb h a => convLane cb h a) 4 0 rfl ()
  convTail
  loopN (fun h hh a => half  x u h hh a) 2 0 rfl ()

end Cert.MixIdeal.Run

end
-- ==== Proof.Mix.Eq.lean ====
/- The printed body is the one with loops. -/
module

public import proofs.«01_k».proof.Proof.Mix.Body

@[expose] public section

set_option maxRecDepth 10000000

noncomputable section

namespace Cert.MixIdeal.Run

open Idealize.ShloMosaic Idealize.SL.Sem
open Cert.MixIdeal
open Cert.MixIdeal.K0.Facts₀ Cert.MixIdeal.Shapes1.Facts₀ Cert.MixIdeal.Shapes2.Facts₀

variable {F : FTy → Type} [FloatOps F]

/-- The buffers a grid point is called with. -/
abbrev mkM (arg1 : Memref sig .tc .vmem S1024x1024 .f32) (arg2 : Memref sig .tc .vmem S2x1024 .f32) (arg4 : Memref sig .tc .vmem S1x31x512 .f32) (arg5 arg6 arg7 arg8 : Memref sig .tc .vmem S2x512 .f32)
    (arg10 arg11 : Memref sig .tc .vmem S1024x256 .f32) (arg12 : Memref sig .tc .vmem S4x256x256 .f32) (arg13 arg14 : Memref sig .tc .vmem S256x512 .f32) (arg15 : Memref sig .tc .vmem S4x1x128 .f32)
    (arg16 : Memref sig .tc .vmem S1024x1024 .f32) (arg17 : Memref sig .tc .vmem S1024x3072 .bf16) (arg18 : Memref sig .tc .vmem S1024x1024 .bf16) (arg19 : Memref sig .tc .vmem S2x1088x512 .f32)
    (arg20 : Memref sig .tc .vmem S1024x512 .f32) (arg21 : Memref sig .tc .vmem S1024x1024 .bf16) (arg22 : Memref sig .tc .vmem S4x128x128 .f32) : Mem
  | .x => arg1 | .g => arg2 | .cw => arg4 | .cb => arg5 | .lng => arg6 | .lnb => arg7 | .rg => arg8 | .cos => arg10 | .sin => arg11 | .dm => arg12 | .wq => arg13 | .wk => arg14 | .gl => arg15
  | .out => arg16 | .win => arg17 | .wout => arg18 | .hb => arg19 | .cv => arg20 | .ab => arg21 | .st => arg22

/-- The first region's condition: the first grid point. -/
abbrev cond1 (i : grid0.Coords) : Prop :=
  (Scalar.cmpi .ne (Scalar.extui (Scalar.cmpi .eq (BitVec.ofNat 32 (i 0).val) 0#32 : BitVec 1) : BitVec 32) 0#32 : BitVec 1) = 1#1

/-- The tile's number in its sequence, as the body computes it. -/
abbrev tileNo (i : grid0.Coords) : BitVec 32 :=
  let v4 : BitVec 32 := Scalar.select (Scalar.cmpi .eq 8#32 0#32 : BitVec 1) 1#32 8#32
  let v5 : BitVec 32 := Scalar.remsi (BitVec.ofNat 32 (i 0).val) v4
  Scalar.select (Scalar.andi (Scalar.xori (Scalar.cmpi .slt v5 0#32 : BitVec 1) (Scalar.cmpi .slt v4 0#32 : BitVec 1)) (Scalar.cmpi .ne v5 0#32 : BitVec 1)) (Scalar.addi v5 v4) v5

/-- The second region's condition: the first tile of a sequence. -/
abbrev cond2 (i : grid0.Coords) : Prop :=
  (Scalar.cmpi .ne (Scalar.extui (Scalar.cmpi .eq (tileNo i) 0#32 : BitVec 1) : BitVec 32) 0#32 : BitVec 1) = 1#1

/-- The first region: the two weights staged in, the group's input cleared. -/
def fill (i : grid0.Coords) (arg1 : Memref sig .tc .vmem S1024x1024 .f32) (harg1 : arg1.IsWhole) (arg2 : Memref sig .tc .vmem S2x1024 .f32) (harg2 : arg2.IsWhole) (arg3 : Memref sig .tc .hbm S2x1024x3072 .f32) (harg3 : arg3.IsWhole) (arg4 : Memref sig .tc .vmem S1x31x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (arg8 : Memref sig .tc .vmem S2x512 .f32) (harg8 : arg8.IsWhole) (arg9 : Memref sig .tc .hbm S2x1024x1024 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S4x256x256 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x1x128 .f32) (harg15 : arg15.IsWhole) (arg16 : Memref sig .tc .vmem S1024x1024 .f32) (harg16 : arg16.IsWhole) (arg17 : Memref sig .tc .vmem S1024x3072 .bf16) (harg17 : arg17.IsWhole) (arg18 : Memref sig .tc .vmem S1024x1024 .bf16) (harg18 : arg18.IsWhole) (arg19 : Memref sig .tc .vmem S2x1088x512 .f32) (harg19 : arg19.IsWhole) (arg20 : Memref sig .tc .vmem S1024x512 .f32) (harg20 : arg20.IsWhole) (arg21 : Memref sig .tc .vmem S1024x1024 .bf16) (harg21 : arg21.IsWhole) (arg22 : Memref sig .tc .vmem S4x128x128 .f32) (harg22 : arg22.IsWhole) (alloca_r0 : Memref sig .tc .vmem S2x256x3072 .f32) (halloca_r0 : alloca_r0.IsWhole) (v16394_r0 : DmaSems sig S2) (alloca_r1 : Memref sig .tc .vmem S2x512x1024 .f32) (halloca_r1 : alloca_r1.IsWhole) (v16394_r1 : DmaSems sig S2) : PG F PUnit := do
  k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1
  k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1
  k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1
  k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1
  let _v : Vec F S2x1088x512 .f32 ← Prog.lift (.load arg19 (Rect.unit (s := S2x1088x512) ![0, 0, 0] S2x1088x512.size inb_S2x1088x512_S2x1088x512_0_0_0).toLoadRect (View.loadsAt_vmem h_S2x1088x512))
  Prog.lift (.store arg19 (Rect.unit (s := S2x1088x512) ![0, 0, 0] S2x1088x512.size inb_S2x1088x512_S2x1088x512_0_0_0) (shapeCast S2x1088x512 (broadcast S2x1088x512 (Scalar.ofBits .f32 0x00000000#32) : FVec F S2x1088x512 .f32) shapeCasts_S2x1088x512_S2x1088x512) Finset.univ (View.stores_vmem_bits_univ h_S2x1088x512 rfl) (.inl rfl))
  pure ⟨⟩

/-- The second region: the rows before the tile and the state cleared. -/
def zero : Cmd F Unit := do
  let _v : Vec F S2x40x512 .f32 ← rd .hb (Rect.unit (s := S2x1088x512) ![0, 0, 0] S2x40x512.size inb_S2x1088x512_S2x40x512_0_0_0) (fun _ => View.loadsAt_vmem h_S2x40x512)
  wrs .hb (Rect.unit (s := S2x1088x512) ![0, 0, 0] S2x40x512.size inb_S2x1088x512_S2x40x512_0_0_0) (shapeCast S2x40x512 (broadcast S2x40x512 (Scalar.ofBits .f32 0x00000000#32) : FVec F S2x40x512 .f32) shapeCasts_S2x40x512_S2x40x512) (fun _ _ => View.stores_vmem_bits_univ h_S2x40x512 rfl)
  let _v : Vec F S4x128x128 .f32 ← rd .st (Rect.unit (s := S4x128x128) ![0, 0, 0] S4x128x128.size inb_S4x128x128_S4x128x128_0_0_0) (fun _ => View.loadsAt_vmem h_S4x128x128)
  wrs .st (Rect.unit (s := S4x128x128) ![0, 0, 0] S4x128x128.size inb_S4x128x128_S4x128x128_0_0_0) (shapeCast S4x128x128 (broadcast S4x128x128 (Scalar.ofBits .f32 0x00000000#32) : FVec F S4x128x128 .f32) shapeCasts_S4x128x128_S4x128x128) (fun _ _ => View.stores_vmem_bits_univ h_S4x128x128 rfl)

theorem regions {β γ δ : Type} {c1 c2 : Prop} [Decidable c1] [Decidable c2] (A1 : c1 → PG F PUnit) (A2 : c2 → PG F PUnit) (T1 : c1 → PG F β) (T2 : c2 → PG F β) (R : PG F β)
    (K2 : β → PG F γ) (K1 : γ → PG F δ) (h2 : ∀ h, T2 h = A2 h >>= fun _ => R) (h1 : ∀ h, T1 h = A1 h >>= fun _ => dite c2 T2 fun _ => R) :
    (dite c1 T1 (fun _ => dite c2 T2 fun _ => R) >>= K2) >>= K1 =
      (dite c1 A1 fun _ => pure ⟨⟩) >>= fun _ => (dite c2 A2 fun _ => pure ⟨⟩) >>= fun _ => (R >>= K2) >>= K1 := by
  have e2 : (dite c2 T2 fun _ => R) = (dite c2 A2 fun _ => pure ⟨⟩) >>= fun _ => R := by
    split
    · exact h2 _
    · rfl
  have e1 : (dite c1 T1 fun _ => dite c2 T2 fun _ => R) = (dite c1 A1 fun _ => pure ⟨⟩) >>= fun _ => dite c2 T2 fun _ => R := by
    split
    · exact h1 _
    · rfl
  rw [e1, e2]
  simp only [bind_assoc]

set_option pp.maxSteps 300 in
set_option maxHeartbeats 0 in
/-- The printed body is its two regions and then the body with loops. -/
theorem body_eq (i : grid0.Coords) (arg1 : Memref sig .tc .vmem S1024x1024 .f32) (harg1 : arg1.IsWhole) (arg2 : Memref sig .tc .vmem S2x1024 .f32) (harg2 : arg2.IsWhole) (arg3 : Memref sig .tc .hbm S2x1024x3072 .f32) (harg3 : arg3.IsWhole) (arg4 : Memref sig .tc .vmem S1x31x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (arg8 : Memref sig .tc .vmem S2x512 .f32) (harg8 : arg8.IsWhole) (arg9 : Memref sig .tc .hbm S2x1024x1024 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S4x256x256 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x1x128 .f32) (harg15 : arg15.IsWhole) (arg16 : Memref sig .tc .vmem S1024x1024 .f32) (harg16 : arg16.IsWhole) (arg17 : Memref sig .tc .vmem S1024x3072 .bf16) (harg17 : arg17.IsWhole) (arg18 : Memref sig .tc .vmem S1024x1024 .bf16) (harg18 : arg18.IsWhole) (arg19 : Memref sig .tc .vmem S2x1088x512 .f32) (harg19 : arg19.IsWhole) (arg20 : Memref sig .tc .vmem S1024x512 .f32) (harg20 : arg20.IsWhole) (arg21 : Memref sig .tc .vmem S1024x1024 .bf16) (harg21 : arg21.IsWhole) (arg22 : Memref sig .tc .vmem S4x128x128 .f32) (harg22 : arg22.IsWhole) (alloca_r0 : Memref sig .tc .vmem S2x256x3072 .f32) (halloca_r0 : alloca_r0.IsWhole) (v16394_r0 : DmaSems sig S2) (alloca_r1 : Memref sig .tc .vmem S2x512x1024 .f32) (halloca_r1 : alloca_r1.IsWhole) (v16394_r1 : DmaSems sig S2) :
    cc0_mixer (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1 = (if h : cond1 i then fill (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1 else pure ⟨⟩) >>= fun _ => (if h : cond2 i then (zero (F := F)).prog (mkM arg1 arg2 arg4 arg5 arg6 arg7 arg8 arg10 arg11 arg12 arg13 arg14 arg15 arg16 arg17 arg18 arg19 arg20 arg21 arg22) harg21 else pure ⟨⟩) >>= fun _ => (mainBody (F := F)).prog (mkM arg1 arg2 arg4 arg5 arg6 arg7 arg8 arg10 arg11 arg12 arg13 arg14 arg15 arg16 arg17 arg18 arg19 arg20 arg21 arg22) harg21 := by
  unfold cc0_mixer k0_part500 k0_part5
  dsimp only
  refine (regions (F := F) (fun _ => fill (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1) (fun _ => (zero (F := F)).prog (mkM arg1 arg2 arg4 arg5 arg6 arg7 arg8 arg10 arg11 arg12 arg13 arg14 arg15 arg16 arg17 arg18 arg19 arg20 arg21 arg22) harg21) _ _ _ _ _ (fun _ => ?_) (fun _ => ?_)).trans ?_
  · rfl
  · unfold fill
    simp only [bind_assoc]
    rfl
  · rfl

end Cert.MixIdeal.Run

end
-- ==== Proof.Mix.Runs.lean ====
/- What the mixer call's runs share: the launch facts over the resource algebra with transfers, the branch conditions in
   closed form, the names of the scratch and of the operands left in HBM, and the launch invariant listed. -/
module

public import proofs.«01_k».proof.Proof.Gen.MixIdeal.Frame
public import proofs.«01_k».proof.Proof.Mix.Eq

@[expose] public section

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal
open Cert.MixIdeal.Gen hiding hmain frame_of before0_0_of before0_1_of before0_2_of before0_3_of before0_4_of before0_5_of before0_6_of before0_7_of before0_8_of before0_9_of before0_10_of before0_11_of before0_12_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region: the lines of host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- An input window's staging buffer holds its block at every point, fetched there or not, for proof data whose array is the
    region's and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (Pipeline.UD sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The first region runs at the first point only. -/
theorem hcond1 : ∀ t : Fin cfg0.N, cond1 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond1, e0]
    word_cmp
   : ∀ t : Fin grid0.N, cond1 (grid0.coords t) ↔ t.val % 16 = 0)

/-! ## The buffers -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x31x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x256x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S1024x3072 .bf16 := Memref.whole cc0_scratch0
abbrev scM0_1 : Memref sig .tc .vmem S1024x1024 .bf16 := Memref.whole cc0_scratch1
abbrev scM0_2 : Memref sig .tc .vmem S2x1088x512 .f32 := Memref.whole cc0_scratch2
abbrev scM0_3 : Memref sig .tc .vmem S1024x512 .f32 := Memref.whole cc0_scratch3
abbrev scM0_4 : Memref sig .tc .vmem S1024x1024 .bf16 := Memref.whole cc0_scratch4
abbrev scM0_5 : Memref sig .tc .vmem S4x128x128 .f32 := Memref.whole cc0_scratch5
abbrev scM0_6 : Memref sig .tc .vmem S2x256x3072 .f32 := Memref.whole cc0_scoped0
abbrev scM0_7 : Memref sig .tc .vmem S2x512x1024 .f32 := Memref.whole cc0_scoped2
/-- The operands left in HBM that the body copies into scratch itself, whole. -/
abbrev hbM0_0 : Memref sig .tc .hbm S2x1024x3072 .f32 := Memref.whole main_arg2
abbrev hbM0_1 : Memref sig .tc .hbm S2x1024x1024 .f32 := Memref.whole main_arg8
/-- A buffer's contents type on core `c`, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphores, none of them a window's. -/
abbrev osem0 : Fin 4 → SemLoc sig := fun j => (![SemLoc.dma 18, SemLoc.dma 19, SemLoc.dma 20, SemLoc.dma 21] : Fin 4 → SemLoc sig) j
theorem ownSemFacts0 : Pipeline.OwnSemFacts spec0 osem0 := by decide
/-- They at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3] (by decide) (by decide)]; rfl
/-- The HBM operands the body moves: no window's array. -/
def H0 : Finset (Ref sig .tc) := {main_arg2, main_arg8}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg8)) := by
  rw [BI.bigSep_eq_bigSepL_of_eq [main_arg2, main_arg8] (by decide) (by decide)]; rfl

/-- The launch's invariant, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg2) ∗ hbPt0 c hbM0_1 (V m c main_arg8))) := by
  rw [Pipeline.ΦD_eq, scopedRest0_eq, ownSems00_eq, hbmPts0_eq]; simp only [scM0_0, scM0_1, scM0_2, scM0_3, scM0_4, scM0_5, scM0_6, scM0_7, owns_whole]; try rfl

end Cert.MixIdeal.Run

end
-- ==== Proof.Mix.Fill.lean ====
/- The first region: the two transfers' loops written out, and what its run leaves. -/
module

public import proofs.«01_k».proof.Proof.Mix.Runs
public import proofs.«01_k».proof.Proof.Lib.Staged
public import Idealize.ShloMosaic.Lib.Pointwise
public import Idealize.ShloMosaic.Lib.Pipeline.Value
public import Idealize.ShloMosaic.Lib.WritesUnit
public import Idealize.ShloMosaic.Lib.VecWindow

@[expose] public section

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal Cert.Staged
open Cert.MixIdeal.Gen hiding hmain frame_of before0_0_of before0_1_of before0_2_of before0_3_of before0_4_of before0_5_of before0_6_of before0_7_of before0_8_of before0_9_of before0_10_of before0_11_of before0_12_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A chunk of the input projection's rows, narrowed. -/
def nar0 (v : Vec F S1x256x3072 .f32) : FVec F S256x3072 .bf16 :=
  shapeCast S256x3072 (truncf .bf16 (shapeCast S256x3072 v shapeCasts_S1x256x3072_S256x3072 : FVec F S256x3072 .f32) bitsLt_bf16_f32) shapeCasts_S256x3072_S256x3072

/-- A chunk of the output projection's rows, narrowed. -/
def nar1 (v : Vec F S1x512x1024 .f32) : FVec F S512x1024 .bf16 :=
  shapeCast S512x1024 (truncf .bf16 (shapeCast S512x1024 v shapeCasts_S1x512x1024_S512x1024 : FVec F S512x1024 .f32) bitsLt_bf16_f32) shapeCasts_S512x1024_S512x1024

/-- The group's input cleared. -/
def cleared : FVec F S2x1088x512 .f32 :=
  shapeCast S2x1088x512 (broadcast S2x1088x512 (Scalar.ofBits .f32 0x00000000#32) : FVec F S2x1088x512 .f32) shapeCasts_S2x1088x512_S2x1088x512

/-- The first region, its memory operations in order. -/
def fillOps (arg3 : Memref sig .tc .hbm S2x1024x3072 .f32) (arg9 : Memref sig .tc .hbm S2x1024x1024 .f32) (arg17 : Memref sig .tc .vmem S1024x3072 .bf16) (harg17 : arg17.IsWhole) (arg18 : Memref sig .tc .vmem S1024x1024 .bf16) (harg18 : arg18.IsWhole) (arg19 : Memref sig .tc .vmem S2x1088x512 .f32)
    (alloca_r0 : Memref sig .tc .vmem S2x256x3072 .f32) (v16394_r0 : DmaSems sig S2) (alloca_r1 : Memref sig .tc .vmem S2x512x1024 .f32) (v16394_r1 : DmaSems sig S2) : PG F PUnit := do
  Prog.lift (.enqueueDma ((arg3.slice (Rect.unit (s := S2x1024x3072) ![0, 0, 0] S1x256x3072.size inb_S2x1024x3072_S1x256x3072_0_0_0) (fun _ => rfl)).squeeze S256x3072 squeezes_S1x256x3072_S256x3072) (.here ((alloca_r0.slice (Rect.unit (s := S2x256x3072) ![0, 0, 0] S1x256x3072.size inb_S2x256x3072_S1x256x3072_0_0_0) (fun _ => rfl)).squeeze S256x3072 squeezes_S1x256x3072_S256x3072)) (.dma ((v16394_r0.slice (Rect.unit (s := S2) ![0] S1.size inb_S2_S1_0)).squeeze S_ squeezes_S1_S_).sem) ((View.wordExact_bits rfl).reshape _ _) ((View.wordExact_bits rfl).reshape _ _) ⟨Or.inl rfl, trivial⟩)
  Prog.lift (.enqueueDma ((arg3.slice (Rect.unit (s := S2x1024x3072) ![0, 256, 0] S1x256x3072.size inb_S2x1024x3072_S1x256x3072_0_256_0) (fun _ => rfl)).squeeze S256x3072 squeezes_S1x256x3072_S256x3072) (.here ((alloca_r0.slice (Rect.unit (s := S2x256x3072) ![1, 0, 0] S1x256x3072.size inb_S2x256x3072_S1x256x3072_1_0_0) (fun _ => rfl)).squeeze S256x3072 squeezes_S1x256x3072_S256x3072)) (.dma ((v16394_r0.slice (Rect.unit (s := S2) ![1] S1.size inb_S2_S1_1)).squeeze S_ squeezes_S1_S_).sem) ((View.wordExact_bits rfl).reshape _ _) ((View.wordExact_bits rfl).reshape _ _) ⟨Or.inl rfl, trivial⟩)
  Prog.lift (.waitDma2 ((v16394_r0.slice (Rect.unit (s := S2) ![0] S1.size inb_S2_S1_0)).squeeze S_ squeezes_S1_S_).sem ((arg3.slice (Rect.unit (s := S2x1024x3072) ![0, 0, 0] S1x256x3072.size inb_S2x1024x3072_S1x256x3072_0_0_0) (fun _ => rfl)).squeeze S256x3072 squeezes_S1x256x3072_S256x3072) ((alloca_r0.slice (Rect.unit (s := S2x256x3072) ![0, 0, 0] S1x256x3072.size inb_S2x256x3072_S1x256x3072_0_0_0) (fun _ => rfl)).squeeze S256x3072 squeezes_S1x256x3072_S256x3072) ((View.wordExact_bits rfl).reshape _ _) ((View.wordExact_bits rfl).reshape _ _))
  let w0_0 : Vec F S1x256x3072 .f32 ← Prog.lift (.load alloca_r0 (Rect.unit (s := S2x256x3072) ![0, 0, 0] S1x256x3072.size inb_S2x256x3072_S1x256x3072_0_0_0).toLoadRect (View.loadsAt_vmem h_S1x256x3072))
  let u0_0 : Vec F S256x3072 .bf16 ← Prog.lift (.load arg17 (Rect.unit (s := S1024x3072) ![0, 0] S256x3072.size inb_S1024x3072_S256x3072_0_0).toLoadRect (View.loadsAt_vmem h_S256x3072))
  Prog.lift (.store arg17 (Rect.unit (s := S1024x3072) ![0, 0] S256x3072.size inb_S1024x3072_S256x3072_0_0) (nar0 w0_0) Finset.univ (View.stores_vmem h_S256x3072 (harg17.storeExact_slice rfl _ packedbf16_S1024x3072_S256x3072_0_0) (fun _ => rfl)) (.inl rfl))
  Prog.lift (.enqueueDma ((arg3.slice (Rect.unit (s := S2x1024x3072) ![0, 512, 0] S1x256x3072.size inb_S2x1024x3072_S1x256x3072_0_512_0) (fun _ => rfl)).squeeze S256x3072 squeezes_S1x256x3072_S256x3072) (.here ((alloca_r0.slice (Rect.unit (s := S2x256x3072) ![0, 0, 0] S1x256x3072.size inb_S2x256x3072_S1x256x3072_0_0_0) (fun _ => rfl)).squeeze S256x3072 squeezes_S1x256x3072_S256x3072)) (.dma ((v16394_r0.slice (Rect.unit (s := S2) ![0] S1.size inb_S2_S1_0)).squeeze S_ squeezes_S1_S_).sem) ((View.wordExact_bits rfl).reshape _ _) ((View.wordExact_bits rfl).reshape _ _) ⟨Or.inl rfl, trivial⟩)
  Prog.lift (.waitDma2 ((v16394_r0.slice (Rect.unit (s := S2) ![1] S1.size inb_S2_S1_1)).squeeze S_ squeezes_S1_S_).sem ((arg3.slice (Rect.unit (s := S2x1024x3072) ![0, 256, 0] S1x256x3072.size inb_S2x1024x3072_S1x256x3072_0_256_0) (fun _ => rfl)).squeeze S256x3072 squeezes_S1x256x3072_S256x3072) ((alloca_r0.slice (Rect.unit (s := S2x256x3072) ![1, 0, 0] S1x256x3072.size inb_S2x256x3072_S1x256x3072_1_0_0) (fun _ => rfl)).squeeze S256x3072 squeezes_S1x256x3072_S256x3072) ((View.wordExact_bits rfl).reshape _ _) ((View.wordExact_bits rfl).reshape _ _))
  let w0_256 : Vec F S1x256x3072 .f32 ← Prog.lift (.load alloca_r0 (Rect.unit (s := S2x256x3072) ![1, 0, 0] S1x256x3072.size inb_S2x256x3072_S1x256x3072_1_0_0).toLoadRect (View.loadsAt_vmem h_S1x256x3072))
  let u0_256 : Vec F S256x3072 .bf16 ← Prog.lift (.load arg17 (Rect.unit (s := S1024x3072) ![256, 0] S256x3072.size inb_S1024x3072_S256x3072_256_0).toLoadRect (View.loadsAt_vmem h_S256x3072))
  Prog.lift (.store arg17 (Rect.unit (s := S1024x3072) ![256, 0] S256x3072.size inb_S1024x3072_S256x3072_256_0) (nar0 w0_256) Finset.univ (View.stores_vmem h_S256x3072 (harg17.storeExact_slice rfl _ packedbf16_S1024x3072_S256x3072_256_0) (fun _ => rfl)) (.inl rfl))
  Prog.lift (.enqueueDma ((arg3.slice (Rect.unit (s := S2x1024x3072) ![0, 768, 0] S1x256x3072.size inb_S2x1024x3072_S1x256x3072_0_768_0) (fun _ => rfl)).squeeze S256x3072 squeezes_S1x256x3072_S256x3072) (.here ((alloca_r0.slice (Rect.unit (s := S2x256x3072) ![1, 0, 0] S1x256x3072.size inb_S2x256x3072_S1x256x3072_1_0_0) (fun _ => rfl)).squeeze S256x3072 squeezes_S1x256x3072_S256x3072)) (.dma ((v16394_r0.slice (Rect.unit (s := S2) ![1] S1.size inb_S2_S1_1)).squeeze S_ squeezes_S1_S_).sem) ((View.wordExact_bits rfl).reshape _ _) ((View.wordExact_bits rfl).reshape _ _) ⟨Or.inl rfl, trivial⟩)
  Prog.lift (.waitDma2 ((v16394_r0.slice (Rect.unit (s := S2) ![0] S1.size inb_S2_S1_0)).squeeze S_ squeezes_S1_S_).sem ((arg3.slice (Rect.unit (s := S2x1024x3072) ![0, 512, 0] S1x256x3072.size inb_S2x1024x3072_S1x256x3072_0_512_0) (fun _ => rfl)).squeeze S256x3072 squeezes_S1x256x3072_S256x3072) ((alloca_r0.slice (Rect.unit (s := S2x256x3072) ![0, 0, 0] S1x256x3072.size inb_S2x256x3072_S1x256x3072_0_0_0) (fun _ => rfl)).squeeze S256x3072 squeezes_S1x256x3072_S256x3072) ((View.wordExact_bits rfl).reshape _ _) ((View.wordExact_bits rfl).reshape _ _))
  let w0_512 : Vec F S1x256x3072 .f32 ← Prog.lift (.load alloca_r0 (Rect.unit (s := S2x256x3072) ![0, 0, 0] S1x256x3072.size inb_S2x256x3072_S1x256x3072_0_0_0).toLoadRect (View.loadsAt_vmem h_S1x256x3072))
  let u0_512 : Vec F S256x3072 .bf16 ← Prog.lift (.load arg17 (Rect.unit (s := S1024x3072) ![512, 0] S256x3072.size inb_S1024x3072_S256x3072_512_0).toLoadRect (View.loadsAt_vmem h_S256x3072))
  Prog.lift (.store arg17 (Rect.unit (s := S1024x3072) ![512, 0] S256x3072.size inb_S1024x3072_S256x3072_512_0) (nar0 w0_512) Finset.univ (View.stores_vmem h_S256x3072 (harg17.storeExact_slice rfl _ packedbf16_S1024x3072_S256x3072_512_0) (fun _ => rfl)) (.inl rfl))
  Prog.lift (.waitDma2 ((v16394_r0.slice (Rect.unit (s := S2) ![1] S1.size inb_S2_S1_1)).squeeze S_ squeezes_S1_S_).sem ((arg3.slice (Rect.unit (s := S2x1024x3072) ![0, 768, 0] S1x256x3072.size inb_S2x1024x3072_S1x256x3072_0_768_0) (fun _ => rfl)).squeeze S256x3072 squeezes_S1x256x3072_S256x3072) ((alloca_r0.slice (Rect.unit (s := S2x256x3072) ![1, 0, 0] S1x256x3072.size inb_S2x256x3072_S1x256x3072_1_0_0) (fun _ => rfl)).squeeze S256x3072 squeezes_S1x256x3072_S256x3072) ((View.wordExact_bits rfl).reshape _ _) ((View.wordExact_bits rfl).reshape _ _))
  let w0_768 : Vec F S1x256x3072 .f32 ← Prog.lift (.load alloca_r0 (Rect.unit (s := S2x256x3072) ![1, 0, 0] S1x256x3072.size inb_S2x256x3072_S1x256x3072_1_0_0).toLoadRect (View.loadsAt_vmem h_S1x256x3072))
  let u0_768 : Vec F S256x3072 .bf16 ← Prog.lift (.load arg17 (Rect.unit (s := S1024x3072) ![768, 0] S256x3072.size inb_S1024x3072_S256x3072_768_0).toLoadRect (View.loadsAt_vmem h_S256x3072))
  Prog.lift (.store arg17 (Rect.unit (s := S1024x3072) ![768, 0] S256x3072.size inb_S1024x3072_S256x3072_768_0) (nar0 w0_768) Finset.univ (View.stores_vmem h_S256x3072 (harg17.storeExact_slice rfl _ packedbf16_S1024x3072_S256x3072_768_0) (fun _ => rfl)) (.inl rfl))
  Prog.lift (.enqueueDma ((arg9.slice (Rect.unit (s := S2x1024x1024) ![0, 0, 0] S1x512x1024.size inb_S2x1024x1024_S1x512x1024_0_0_0) (fun _ => rfl)).squeeze S512x1024 squeezes_S1x512x1024_S512x1024) (.here ((alloca_r1.slice (Rect.unit (s := S2x512x1024) ![0, 0, 0] S1x512x1024.size inb_S2x512x1024_S1x512x1024_0_0_0) (fun _ => rfl)).squeeze S512x1024 squeezes_S1x512x1024_S512x1024)) (.dma ((v16394_r1.slice (Rect.unit (s := S2) ![0] S1.size inb_S2_S1_0)).squeeze S_ squeezes_S1_S_).sem) ((View.wordExact_bits rfl).reshape _ _) ((View.wordExact_bits rfl).reshape _ _) ⟨Or.inl rfl, trivial⟩)
  Prog.lift (.enqueueDma ((arg9.slice (Rect.unit (s := S2x1024x1024) ![0, 512, 0] S1x512x1024.size inb_S2x1024x1024_S1x512x1024_0_512_0) (fun _ => rfl)).squeeze S512x1024 squeezes_S1x512x1024_S512x1024) (.here ((alloca_r1.slice (Rect.unit (s := S2x512x1024) ![1, 0, 0] S1x512x1024.size inb_S2x512x1024_S1x512x1024_1_0_0) (fun _ => rfl)).squeeze S512x1024 squeezes_S1x512x1024_S512x1024)) (.dma ((v16394_r1.slice (Rect.unit (s := S2) ![1] S1.size inb_S2_S1_1)).squeeze S_ squeezes_S1_S_).sem) ((View.wordExact_bits rfl).reshape _ _) ((View.wordExact_bits rfl).reshape _ _) ⟨Or.inl rfl, trivial⟩)
  Prog.lift (.waitDma2 ((v16394_r1.slice (Rect.unit (s := S2) ![0] S1.size inb_S2_S1_0)).squeeze S_ squeezes_S1_S_).sem ((arg9.slice (Rect.unit (s := S2x1024x1024) ![0, 0, 0] S1x512x1024.size inb_S2x1024x1024_S1x512x1024_0_0_0) (fun _ => rfl)).squeeze S512x1024 squeezes_S1x512x1024_S512x1024) ((alloca_r1.slice (Rect.unit (s := S2x512x1024) ![0, 0, 0] S1x512x1024.size inb_S2x512x1024_S1x512x1024_0_0_0) (fun _ => rfl)).squeeze S512x1024 squeezes_S1x512x1024_S512x1024) ((View.wordExact_bits rfl).reshape _ _) ((View.wordExact_bits rfl).reshape _ _))
  let w1_0 : Vec F S1x512x1024 .f32 ← Prog.lift (.load alloca_r1 (Rect.unit (s := S2x512x1024) ![0, 0, 0] S1x512x1024.size inb_S2x512x1024_S1x512x1024_0_0_0).toLoadRect (View.loadsAt_vmem h_S1x512x1024))
  let u1_0 : Vec F S512x1024 .bf16 ← Prog.lift (.load arg18 (Rect.unit (s := S1024x1024) ![0, 0] S512x1024.size inb_S1024x1024_S512x1024_0_0).toLoadRect (View.loadsAt_vmem h_S512x1024))
  Prog.lift (.store arg18 (Rect.unit (s := S1024x1024) ![0, 0] S512x1024.size inb_S1024x1024_S512x1024_0_0) (nar1 w1_0) Finset.univ (View.stores_vmem h_S512x1024 (harg18.storeExact_slice rfl _ packedbf16_S1024x1024_S512x1024_0_0) (fun _ => rfl)) (.inl rfl))
  Prog.lift (.waitDma2 ((v16394_r1.slice (Rect.unit (s := S2) ![1] S1.size inb_S2_S1_1)).squeeze S_ squeezes_S1_S_).sem ((arg9.slice (Rect.unit (s := S2x1024x1024) ![0, 512, 0] S1x512x1024.size inb_S2x1024x1024_S1x512x1024_0_512_0) (fun _ => rfl)).squeeze S512x1024 squeezes_S1x512x1024_S512x1024) ((alloca_r1.slice (Rect.unit (s := S2x512x1024) ![1, 0, 0] S1x512x1024.size inb_S2x512x1024_S1x512x1024_1_0_0) (fun _ => rfl)).squeeze S512x1024 squeezes_S1x512x1024_S512x1024) ((View.wordExact_bits rfl).reshape _ _) ((View.wordExact_bits rfl).reshape _ _))
  let w1_512 : Vec F S1x512x1024 .f32 ← Prog.lift (.load alloca_r1 (Rect.unit (s := S2x512x1024) ![1, 0, 0] S1x512x1024.size inb_S2x512x1024_S1x512x1024_1_0_0).toLoadRect (View.loadsAt_vmem h_S1x512x1024))
  let u1_512 : Vec F S512x1024 .bf16 ← Prog.lift (.load arg18 (Rect.unit (s := S1024x1024) ![512, 0] S512x1024.size inb_S1024x1024_S512x1024_512_0).toLoadRect (View.loadsAt_vmem h_S512x1024))
  Prog.lift (.store arg18 (Rect.unit (s := S1024x1024) ![512, 0] S512x1024.size inb_S1024x1024_S512x1024_512_0) (nar1 w1_512) Finset.univ (View.stores_vmem h_S512x1024 (harg18.storeExact_slice rfl _ packedbf16_S1024x1024_S512x1024_512_0) (fun _ => rfl)) (.inl rfl))
  let _v : Vec F S2x1088x512 .f32 ← Prog.lift (.load arg19 (Rect.unit (s := S2x1088x512) ![0, 0, 0] S2x1088x512.size inb_S2x1088x512_S2x1088x512_0_0_0).toLoadRect (View.loadsAt_vmem h_S2x1088x512))
  Prog.lift (.store arg19 (Rect.unit (s := S2x1088x512) ![0, 0, 0] S2x1088x512.size inb_S2x1088x512_S2x1088x512_0_0_0) cleared Finset.univ (View.stores_vmem_bits_univ h_S2x1088x512 rfl) (.inl rfl))
  pure ⟨⟩

set_option maxHeartbeats 1600000 in
theorem fill_eq (i : grid0.Coords) (arg1 : Memref sig .tc .vmem S1024x1024 .f32) (harg1 : arg1.IsWhole) (arg2 : Memref sig .tc .vmem S2x1024 .f32) (harg2 : arg2.IsWhole) (arg3 : Memref sig .tc .hbm S2x1024x3072 .f32) (harg3 : arg3.IsWhole) (arg4 : Memref sig .tc .vmem S1x31x512 .f32) (harg4 : arg4.IsWhole) (arg5 : Memref sig .tc .vmem S2x512 .f32) (harg5 : arg5.IsWhole) (arg6 : Memref sig .tc .vmem S2x512 .f32) (harg6 : arg6.IsWhole) (arg7 : Memref sig .tc .vmem S2x512 .f32) (harg7 : arg7.IsWhole) (arg8 : Memref sig .tc .vmem S2x512 .f32) (harg8 : arg8.IsWhole) (arg9 : Memref sig .tc .hbm S2x1024x1024 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S4x256x256 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S4x1x128 .f32) (harg15 : arg15.IsWhole) (arg16 : Memref sig .tc .vmem S1024x1024 .f32) (harg16 : arg16.IsWhole) (arg17 : Memref sig .tc .vmem S1024x3072 .bf16) (harg17 : arg17.IsWhole) (arg18 : Memref sig .tc .vmem S1024x1024 .bf16) (harg18 : arg18.IsWhole) (arg19 : Memref sig .tc .vmem S2x1088x512 .f32) (harg19 : arg19.IsWhole) (arg20 : Memref sig .tc .vmem S1024x512 .f32) (harg20 : arg20.IsWhole) (arg21 : Memref sig .tc .vmem S1024x1024 .bf16) (harg21 : arg21.IsWhole) (arg22 : Memref sig .tc .vmem S4x128x128 .f32) (harg22 : arg22.IsWhole) (alloca_r0 : Memref sig .tc .vmem S2x256x3072 .f32) (halloca_r0 : alloca_r0.IsWhole) (v16394_r0 : DmaSems sig S2) (alloca_r1 : Memref sig .tc .vmem S2x512x1024 .f32) (halloca_r1 : alloca_r1.IsWhole) (v16394_r1 : DmaSems sig S2) :
    fill (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 alloca_r0 halloca_r0 v16394_r0 alloca_r1 halloca_r1 v16394_r1 = fillOps arg3 arg9 arg17 harg17 arg18 harg18 arg19 alloca_r0 v16394_r0 alloca_r1 v16394_r1 := by
  unfold fill k0_part1 k0_part2 k0_part3 k0_part4 fillOps nar0 nar1 cleared
  rfl

/-- The input projection as the kernel keeps it: the first layer's, narrowed. -/
def W1 {c : Dev nD} (f : HbBuf0 (F := F) c hbM0_0) : Vec F S1024x3072 .bf16 :=
  truncf .bf16 (fun i => hbM0_0.view.read (Elt F) f (ix3 0 (i 0) (i 1)) : FVec F S1024x3072 .f32) bitsLt_bf16_f32

/-- The output projection as the kernel keeps it: the first layer's, narrowed. -/
def W2 {c : Dev nD} (f : HbBuf0 (F := F) c hbM0_1) : Vec F S1024x1024 .bf16 :=
  truncf .bf16 (fun i => hbM0_1.view.read (Elt F) f (ix3 0 (i 0) (i 1)) : FVec F S1024x1024 .f32) bitsLt_bf16_f32

theorem piece1 {c : Dev nD} (f : HbBuf0 (F := F) c hbM0_0) (o : ℕ)
    (inb : ∀ a, (![o, 0] : Fin 2 → ℕ) a + S256x3072.size a ≤ S1024x3072.size a) (inb' : ∀ a, (![0, o, 0] : Fin 3 → ℕ) a + S1x256x3072.size a ≤ S2x1024x3072.size a)
    (v : Vec F S1x256x3072 .f32) (hv : v = hbM0_0.view.readAt (Elt F) (Rect.unit (s := S2x1024x3072) ![0, o, 0] S1x256x3072.size inb').toLoadRect f)
    (x : S256x3072.Idx) : nar0 v x = W1 f ((Rect.unit (s := S1024x3072) ![o, 0] S256x3072.size inb).emb x) := by
  subst hv
  have hcast : ∀ w : Vec F S1x256x3072 .f32, nar0 w x = truncf .bf16 (fun i => w (ix3 0 (i 0) (i 1)) : FVec F S256x3072 .f32) bitsLt_bf16_f32 x := by
    intro w
    rw [eq_ix2 x]
    pointwise [nar0]
  rw [hcast]
  refine congrArg (fun z : F .f32 => truncf .bf16 (fun _ : S1024.Idx => z : FVec F S1024 .f32) bitsLt_bf16_f32 (ix1 0)) (congrArg (hbM0_0.view.read (Elt F) f) (funext fun a => Fin.ext ?_))
  fin_cases a
  · rfl
  · show o + 1 * (x 0).val = o + 1 * (x 0).val; rfl
  · show 0 + 1 * (x 1).val = 0 + 1 * (x 1).val; rfl

theorem mem_chunk1 (y : S1024x3072.Idx) (o : ℕ) (inb : ∀ a, (![o, 0] : Fin 2 → ℕ) a + S256x3072.size a ≤ S1024x3072.size a)
    (h1 : o ≤ (y 0).val) (h2 : (y 0).val < o + 256) : y ∈ (Rect.unit (s := S1024x3072) ![o, 0] S256x3072.size inb).set := by
  rw [Rect.mem_set_unit]
  intro a
  fin_cases a
  · exact ⟨h1, h2⟩
  · exact ⟨Nat.zero_le _, by show (y 1).val < 0 + 3072; have h : (y 1).val < 3072 := (y 1).isLt; omega⟩

theorem piece2 {c : Dev nD} (f : HbBuf0 (F := F) c hbM0_1) (o : ℕ)
    (inb : ∀ a, (![o, 0] : Fin 2 → ℕ) a + S512x1024.size a ≤ S1024x1024.size a) (inb' : ∀ a, (![0, o, 0] : Fin 3 → ℕ) a + S1x512x1024.size a ≤ S2x1024x1024.size a)
    (v : Vec F S1x512x1024 .f32) (hv : v = hbM0_1.view.readAt (Elt F) (Rect.unit (s := S2x1024x1024) ![0, o, 0] S1x512x1024.size inb').toLoadRect f)
    (x : S512x1024.Idx) : nar1 v x = W2 f ((Rect.unit (s := S1024x1024) ![o, 0] S512x1024.size inb).emb x) := by
  subst hv
  have hcast : ∀ w : Vec F S1x512x1024 .f32, nar1 w x = truncf .bf16 (fun i => w (ix3 0 (i 0) (i 1)) : FVec F S512x1024 .f32) bitsLt_bf16_f32 x := by
    intro w
    rw [eq_ix2 x]
    pointwise [nar1]
  rw [hcast]
  refine congrArg (fun z : F .f32 => truncf .bf16 (fun _ : S1024.Idx => z : FVec F S1024 .f32) bitsLt_bf16_f32 (ix1 0)) (congrArg (hbM0_1.view.read (Elt F) f) (funext fun a => Fin.ext ?_))
  fin_cases a
  · rfl
  · show o + 1 * (x 0).val = o + 1 * (x 0).val; rfl
  · show 0 + 1 * (x 1).val = 0 + 1 * (x 1).val; rfl

theorem mem_chunk2 (y : S1024x1024.Idx) (o : ℕ) (inb : ∀ a, (![o, 0] : Fin 2 → ℕ) a + S512x1024.size a ≤ S1024x1024.size a)
    (h1 : o ≤ (y 0).val) (h2 : (y 0).val < o + 512) : y ∈ (Rect.unit (s := S1024x1024) ![o, 0] S512x1024.size inb).set := by
  rw [Rect.mem_set_unit]
  intro a
  fin_cases a
  · exact ⟨h1, h2⟩
  · exact ⟨Nat.zero_le _, by show (y 1).val < 0 + 1024; have h : (y 1).val < 1024 := (y 1).isLt; omega⟩

/-- A load of the slot last transferred into reads the transferred rows of the weights. -/
theorem hit1 (A : Memref sig .tc .vmem S2x256x3072 .f32) (s o : ℕ)
    (inb : ∀ a, (![s, 0, 0] : Fin 3 → ℕ) a + S1x256x3072.size a ≤ S2x256x3072.size a) (inb' : ∀ a, (![0, o, 0] : Fin 3 → ℕ) a + S1x256x3072.size a ≤ S2x1024x3072.size a)
    (h : ∀ a, (Rect.unit (s := S2x256x3072) ![s, 0, 0] S1x256x3072.size inb).stride a = 1) (h' : ∀ a, (Rect.unit (s := S2x1024x3072) ![0, o, 0] S1x256x3072.size inb').stride a = 1)
    (hq : S1x256x3072.Squeezes S256x3072) (hq' : S1x256x3072.Squeezes S256x3072) (f : A.view.ty.Contents (Elt F)) (g : hbM0_0.view.ty.Contents (Elt F))
    (d : S256x3072.Idx → Elt F .f32)
    (hd : d = ((hbM0_0.slice (Rect.unit (s := S2x1024x3072) ![0, o, 0] S1x256x3072.size inb') h').squeeze S256x3072 hq').view.read (Elt F) g) :
    A.view.readAt (Elt F) (Rect.unit (s := S2x256x3072) ![s, 0, 0] S1x256x3072.size inb).toLoadRect
      (View.write (Elt F) ((A.slice (Rect.unit (s := S2x256x3072) ![s, 0, 0] S1x256x3072.size inb) h).squeeze S256x3072 hq).view f d Finset.univ)
      = hbM0_0.view.readAt (Elt F) (Rect.unit (s := S2x1024x3072) ![0, o, 0] S1x256x3072.size inb').toLoadRect g := by
  subst hd
  exact funext fun j => staged_hit A hbM0_0 _ _ _ _ h' rfl h hq hq' f g j

/-- A load of the other slot does not see it. -/
theorem skip1 (A : Memref sig .tc .vmem S2x256x3072 .f32) (s s' : ℕ) (hs : s + 1 ≤ s' ∨ s' + 1 ≤ s)
    (inb : ∀ a, (![s, 0, 0] : Fin 3 → ℕ) a + S1x256x3072.size a ≤ S2x256x3072.size a) (inb' : ∀ a, (![s', 0, 0] : Fin 3 → ℕ) a + S1x256x3072.size a ≤ S2x256x3072.size a)
    (h : ∀ a, (Rect.unit (s := S2x256x3072) ![s', 0, 0] S1x256x3072.size inb').stride a = 1)
    (hq : S1x256x3072.Squeezes S256x3072) (f : A.view.ty.Contents (Elt F)) (d : S256x3072.Idx → Elt F .f32) :
    A.view.readAt (Elt F) (Rect.unit (s := S2x256x3072) ![s, 0, 0] S1x256x3072.size inb).toLoadRect
      (View.write (Elt F) ((A.slice (Rect.unit (s := S2x256x3072) ![s', 0, 0] S1x256x3072.size inb') h).squeeze S256x3072 hq).view f d Finset.univ)
      = A.view.readAt (Elt F) (Rect.unit (s := S2x256x3072) ![s, 0, 0] S1x256x3072.size inb).toLoadRect f :=
  staged_skip A _ _ _ inb inb' h hq f d 0 hs

/-- A load of the slot last transferred into reads the transferred rows of the weights. -/
theorem hit2 (A : Memref sig .tc .vmem S2x512x1024 .f32) (s o : ℕ)
    (inb : ∀ a, (![s, 0, 0] : Fin 3 → ℕ) a + S1x512x1024.size a ≤ S2x512x1024.size a) (inb' : ∀ a, (![0, o, 0] : Fin 3 → ℕ) a + S1x512x1024.size a ≤ S2x1024x1024.size a)
    (h : ∀ a, (Rect.unit (s := S2x512x1024) ![s, 0, 0] S1x512x1024.size inb).stride a = 1) (h' : ∀ a, (Rect.unit (s := S2x1024x1024) ![0, o, 0] S1x512x1024.size inb').stride a = 1)
    (hq : S1x512x1024.Squeezes S512x1024) (hq' : S1x512x1024.Squeezes S512x1024) (f : A.view.ty.Contents (Elt F)) (g : hbM0_1.view.ty.Contents (Elt F))
    (d : S512x1024.Idx → Elt F .f32)
    (hd : d = ((hbM0_1.slice (Rect.unit (s := S2x1024x1024) ![0, o, 0] S1x512x1024.size inb') h').squeeze S512x1024 hq').view.read (Elt F) g) :
    A.view.readAt (Elt F) (Rect.unit (s := S2x512x1024) ![s, 0, 0] S1x512x1024.size inb).toLoadRect
      (View.write (Elt F) ((A.slice (Rect.unit (s := S2x512x1024) ![s, 0, 0] S1x512x1024.size inb) h).squeeze S512x1024 hq).view f d Finset.univ)
      = hbM0_1.view.readAt (Elt F) (Rect.unit (s := S2x1024x1024) ![0, o, 0] S1x512x1024.size inb').toLoadRect g := by
  subst hd
  exact funext fun j => staged_hit A hbM0_1 _ _ _ _ h' rfl h hq hq' f g j

/-- A load of the other slot does not see it. -/
theorem skip2 (A : Memref sig .tc .vmem S2x512x1024 .f32) (s s' : ℕ) (hs : s + 1 ≤ s' ∨ s' + 1 ≤ s)
    (inb : ∀ a, (![s, 0, 0] : Fin 3 → ℕ) a + S1x512x1024.size a ≤ S2x512x1024.size a) (inb' : ∀ a, (![s', 0, 0] : Fin 3 → ℕ) a + S1x512x1024.size a ≤ S2x512x1024.size a)
    (h : ∀ a, (Rect.unit (s := S2x512x1024) ![s', 0, 0] S1x512x1024.size inb').stride a = 1)
    (hq : S1x512x1024.Squeezes S512x1024) (f : A.view.ty.Contents (Elt F)) (d : S512x1024.Idx → Elt F .f32) :
    A.view.readAt (Elt F) (Rect.unit (s := S2x512x1024) ![s, 0, 0] S1x512x1024.size inb).toLoadRect
      (View.write (Elt F) ((A.slice (Rect.unit (s := S2x512x1024) ![s', 0, 0] S1x512x1024.size inb') h).squeeze S512x1024 hq).view f d Finset.univ)
      = A.view.readAt (Elt F) (Rect.unit (s := S2x512x1024) ![s, 0, 0] S1x512x1024.size inb).toLoadRect f :=
  staged_skip A _ _ _ inb inb' h hq f d 0 hs

set_option maxHeartbeats 1504000 in set_option sl_exec.dmaWindow true in set_option sl_exec.dmaWindowSet true in
/-- The first region leaves the two narrowed projections in the scratch and the group's input cleared. -/
theorem fillRun (c : Dev nD) (arg17 : Memref sig .tc .vmem S1024x3072 .bf16) (harg17 : arg17.IsWhole) (arg18 : Memref sig .tc .vmem S1024x1024 .bf16) (harg18 : arg18.IsWhole) (arg19 : Memref sig .tc .vmem S2x1088x512 .f32) (harg19 : arg19.IsWhole)
    (alloca_r0 : Memref sig .tc .vmem S2x256x3072 .f32) (halloca_r0 : alloca_r0.IsWhole) (alloca_r1 : Memref sig .tc .vmem S2x512x1024 .f32) (halloca_r1 : alloca_r1.IsWhole) (fh0 : HbBuf0 (F := F) c hbM0_0) (fh1 : HbBuf0 (F := F) c hbM0_1) :
      ∀ (W : Waits sig Unit) (K : PUnit → sProp 𝕄),
        iprop((∃ d, owns (c : Thread nD τ) arg17 fullShare d) ∗ (∃ d, owns (c : Thread nD τ) arg18 fullShare d) ∗ (∃ d, owns (c : Thread nD τ) arg19 fullShare d) ∗ (∃ d, owns (c : Thread nD τ) alloca_r0 fullShare d) ∗ (∃ d, owns (c : Thread nD τ) alloca_r1 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ owes (c : Thread nD τ) 0 W
            ∗ (iprop(owns (c : Thread nD τ) arg17 fullShare (W1 fh0) ∗ owns (c : Thread nD τ) arg18 fullShare (W2 fh1) ∗ owns (c : Thread nD τ) arg19 fullShare (cleared (F := F)) ∗ (∃ d, owns (c : Thread nD τ) alloca_r0 fullShare d) ∗ (∃ d, owns (c : Thread nD τ) alloca_r1 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (fillOps (F := F) (Memref.whole main_arg2) (Memref.whole main_arg8) arg17 harg17 arg18 harg18 arg19 alloca_r0 cc0_scoped1 alloca_r1 cc0_scoped3) K := by
    intro W K
    unfold fillOps
    unfold owns
    iintro ⟨⟨%ds0, %fs0, -, HS0⟩, ⟨%ds1, %fs1, -, HS1⟩, ⟨%ds4, %fs4, -, HS4⟩, ⟨%ds2, %fs2, -, HS2⟩, ⟨%ds3, %fs3, -, HS3⟩, Hq0, Hq1, Hq2, Hq3, Hh0, Hh1, HW, Hk⟩
    sl_exec
    sl_step
    have hp1 : ∀ p ∈ ([⟨Rect.unit ![768, 0] S256x3072.size inb_S1024x3072_S256x3072_768_0, nar0 (fillRun.sl.w0_768 c alloca_r0 fh0 fs2)⟩,
        ⟨Rect.unit ![512, 0] S256x3072.size inb_S1024x3072_S256x3072_512_0, nar0 (fillRun.sl.w0_512 c alloca_r0 fh0 fs2)⟩,
        ⟨Rect.unit ![256, 0] S256x3072.size inb_S1024x3072_S256x3072_256_0, nar0 (fillRun.sl.w0_256 c alloca_r0 fh0 fs2)⟩,
        ⟨Rect.unit ![0, 0] S256x3072.size inb_S1024x3072_S256x3072_0_0, nar0 (fillRun.sl.w0_0 c alloca_r0 fh0 fs2)⟩] : List (View.Piece (Elt F) S1024x3072 .bf16)), ∀ x, p.2 x = W1 fh0 (p.1.emb x) := by
      simp only [List.forall_mem_cons]
      refine ⟨piece1 fh0 768 _ (by decide) _ (by unfold fillRun.sl.w0_768; exact (hit1 alloca_r0 1 768 _ _ _ (fun _ => rfl) _ squeezes_S1x256x3072_S256x3072 _ fh0 _ rfl)),
        piece1 fh0 512 _ (by decide) _ (by unfold fillRun.sl.w0_512; exact (skip1 alloca_r0 0 1 (by decide) _ _ _ _ _ _).trans (hit1 alloca_r0 0 512 _ _ _ (fun _ => rfl) _ squeezes_S1x256x3072_S256x3072 _ fh0 _ rfl)),
        piece1 fh0 256 _ (by decide) _ (by unfold fillRun.sl.w0_256; exact (skip1 alloca_r0 1 0 (by decide) _ _ _ _ _ _).trans (hit1 alloca_r0 1 256 _ _ _ (fun _ => rfl) _ squeezes_S1x256x3072_S256x3072 _ fh0 _ rfl)),
        piece1 fh0 0 _ (by decide) _ (by unfold fillRun.sl.w0_0; exact (skip1 alloca_r0 0 1 (by decide) _ _ _ _ _ _).trans (hit1 alloca_r0 0 0 _ _ _ (fun _ => rfl) _ squeezes_S1x256x3072_S256x3072 _ fh0 _ rfl)), fun _ h => absurd h List.not_mem_nil⟩
    have hm1 : ∀ y, ∃ p ∈ ([⟨Rect.unit ![768, 0] S256x3072.size inb_S1024x3072_S256x3072_768_0, nar0 (fillRun.sl.w0_768 c alloca_r0 fh0 fs2)⟩,
        ⟨Rect.unit ![512, 0] S256x3072.size inb_S1024x3072_S256x3072_512_0, nar0 (fillRun.sl.w0_512 c alloca_r0 fh0 fs2)⟩,
        ⟨Rect.unit ![256, 0] S256x3072.size inb_S1024x3072_S256x3072_256_0, nar0 (fillRun.sl.w0_256 c alloca_r0 fh0 fs2)⟩,
        ⟨Rect.unit ![0, 0] S256x3072.size inb_S1024x3072_S256x3072_0_0, nar0 (fillRun.sl.w0_0 c alloca_r0 fh0 fs2)⟩] : List (View.Piece (Elt F) S1024x3072 .bf16)), y ∈ p.1.set := by
      intro y
      simp only [List.exists_mem_cons_iff]
      have hy : (y 0).val < 1024 := (y 0).isLt
      by_cases h768 : 768 ≤ (y 0).val
      · exact Or.inl (mem_chunk1 y 768 _ (by omega) (by omega))
      refine Or.inr ?_
      by_cases h512 : 512 ≤ (y 0).val
      · exact Or.inl (mem_chunk1 y 512 _ (by omega) (by omega))
      refine Or.inr ?_
      by_cases h256 : 256 ≤ (y 0).val
      · exact Or.inl (mem_chunk1 y 256 _ (by omega) (by omega))
      refine Or.inr ?_
      exact Or.inl (mem_chunk1 y 0 _ (by omega) (by omega))
    have hc1 : View.canon _ = W1 fh0 :=
      funext fun y => View.canon_apply_of_pieces (W1 fh0) _ hp1 y (hm1 y)
    have hp2 : ∀ p ∈ ([⟨Rect.unit ![512, 0] S512x1024.size inb_S1024x1024_S512x1024_512_0, nar1 (fillRun.sl.w1_512 c alloca_r1 fh1 fs3)⟩,
        ⟨Rect.unit ![0, 0] S512x1024.size inb_S1024x1024_S512x1024_0_0, nar1 (fillRun.sl.w1_0 c alloca_r1 fh1 fs3)⟩] : List (View.Piece (Elt F) S1024x1024 .bf16)), ∀ x, p.2 x = W2 fh1 (p.1.emb x) := by
      simp only [List.forall_mem_cons]
      refine ⟨piece2 fh1 512 _ (by decide) _ (by unfold fillRun.sl.w1_512; exact (hit2 alloca_r1 1 512 _ _ _ (fun _ => rfl) _ squeezes_S1x512x1024_S512x1024 _ fh1 _ rfl)),
        piece2 fh1 0 _ (by decide) _ (by unfold fillRun.sl.w1_0; exact (skip2 alloca_r1 0 1 (by decide) _ _ _ _ _ _).trans (hit2 alloca_r1 0 0 _ _ _ (fun _ => rfl) _ squeezes_S1x512x1024_S512x1024 _ fh1 _ rfl)), fun _ h => absurd h List.not_mem_nil⟩
    have hm2 : ∀ y, ∃ p ∈ ([⟨Rect.unit ![512, 0] S512x1024.size inb_S1024x1024_S512x1024_512_0, nar1 (fillRun.sl.w1_512 c alloca_r1 fh1 fs3)⟩,
        ⟨Rect.unit ![0, 0] S512x1024.size inb_S1024x1024_S512x1024_0_0, nar1 (fillRun.sl.w1_0 c alloca_r1 fh1 fs3)⟩] : List (View.Piece (Elt F) S1024x1024 .bf16)), y ∈ p.1.set := by
      intro y
      simp only [List.exists_mem_cons_iff]
      have hy : (y 0).val < 1024 := (y 0).isLt
      by_cases h512 : 512 ≤ (y 0).val
      · exact Or.inl (mem_chunk2 y 512 _ (by omega) (by omega))
      refine Or.inr ?_
      exact Or.inl (mem_chunk2 y 0 _ (by omega) (by omega))
    have hc2 : View.canon _ = W2 fh1 :=
      funext fun y => View.canon_apply_of_pieces (W2 fh1) _ hp2 y (hm2 y)
    iapply Hk
    isplitl [HS0]
    · iexists _; isplitr; swap; · iexact HS0
      ipureintro
      exact (View.read_writes_eq_canon _ _ _ hm1).trans hc1
    isplitl [HS1]
    · iexists _; isplitr; swap; · iexact HS1
      ipureintro
      exact (View.read_writes_eq_canon _ _ _ hm2).trans hc2
    isplitl [HS4]
    · iexists _; isplitr; swap; · iexact HS4
      ipureintro
      exact View.read_writes_full _ _ _ _ _
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.MixIdeal.Run

end
-- ==== Proof.Mix.Indep.lean ====
/- What the mixer's body leaves does not depend on what the convolution's sums, the concatenated groups and the output block
   held before: each is written before it is read. -/
module

public import proofs.«01_k».proof.Proof.Mix.Body
public import Idealize.ShloMosaic.Lib.WritesUnit

@[expose] public section

set_option maxRecDepth 16384

noncomputable section

namespace Cert.MixIdeal.Run

open Idealize.ShloMosaic Idealize.SL.Sem
open Cert.MixIdeal
open Cert.MixIdeal.K0.Facts₀ Cert.MixIdeal.Shapes1.Facts₀ Cert.MixIdeal.Shapes2.Facts₀

variable {F : FTy → Type} [FloatOps F]

/-- Where two contents are known to agree: everywhere but in three buffers, and there on a set each. -/
def Known (A : Set S1024x512.Idx) (B C : Set S1024x1024.Idx) : (s : Slot) → Set s.sh.Idx
  | .cv => A
  | .ab => B
  | .out => C
  | _ => Set.univ

/-- Two contents agree on what is known. -/
def Agree (K : (s : Slot) → Set s.sh.Idx) (σ σ' : Mst F) : Prop := ∀ s, ∀ i ∈ K s, σ s i = σ' s i

/-- From contents agreeing on `K`, the program computes one value and leaves contents agreeing on `K'`. -/
def Sim {α : Type} (K K' : (s : Slot) → Set s.sh.Idx) (p : Cmd F α) : Prop :=
  ∀ σ σ' : Mst F, Agree K σ σ' → (p.run σ).1 = (p.run σ').1 ∧ Agree K' (p.run σ).2 (p.run σ').2

theorem sim_pure {α : Type} (K : (s : Slot) → Set s.sh.Idx) (a : α) : Sim K K (pure a : Cmd F α) := fun _ _ h => ⟨rfl, h⟩

theorem sim_bind {α β : Type} {K K1 K2 : (s : Slot) → Set s.sh.Idx} {p : Cmd F α} {f : α → Cmd F β} (h : Sim K K1 p) (h' : ∀ a, Sim K1 K2 (f a)) :
    Sim K K2 (p >>= f) := by
  intro σ σ' hs
  obtain ⟨e, hs1⟩ := h σ σ' hs
  rw [run_bind, run_bind, e]
  exact h' _ _ _ hs1

theorem sim_weaken {α : Type} {K K1 K2 : (s : Slot) → Set s.sh.Idx} {p : Cmd F α} (h : Sim K K1 p) (hle : ∀ s, K2 s ⊆ K1 s) : Sim K K2 p :=
  fun σ σ' hs => ⟨(h σ σ' hs).1, fun s i hi => (h σ σ' hs).2 s i (hle s hi)⟩

theorem sim_rd {K : (s : Slot) → Set s.sh.Idx} (s : Slot) (r : Rect s.sh) (h) (hr : ∀ j, r.emb j ∈ K s) : Sim (F := F) K K (rd s r h) := by
  intro σ σ' hs
  refine ⟨?_, hs⟩
  funext j
  exact hs s (r.emb j) (hr j)

theorem sim_drop {α : Type} {K K' : (s : Slot) → Set s.sh.Idx} (s : Slot) (r : Rect s.sh) (h) (q : Cmd F α) (hq : Sim K K' q) :
    Sim K K' (rd s r h >>= fun _ => q) := fun σ σ' hs => hq σ σ' hs

theorem sim_wrs {K K' : (s : Slot) → Set s.sh.Idx} (s : Slot) (r : Rect s.sh) (w) (h) (h1 : ∀ s', s' ≠ s → K' s' ⊆ K s') (h2 : ∀ i ∈ K' s, i ∉ r.set → i ∈ K s) :
    Sim (F := F) K K' (wrs s r w h) := by
  intro σ σ' hs
  refine ⟨rfl, fun s' i hi => ?_⟩
  simp only [run_wrs, put]
  by_cases e : s' = s
  · subst e
    rw [Function.update_self, Function.update_self]
    by_cases hm : i ∈ r.set
    · obtain ⟨x, -, rfl⟩ := Finset.mem_map.mp (by rw [← Rect.map_emb_univ] at hm; exact hm)
      rw [Rect.overlay_emb, Rect.overlay_emb]
    · rw [Rect.overlay_of_not_mem _ _ _ hm, Rect.overlay_of_not_mem _ _ _ hm]
      exact hs _ i (h2 i hi hm)
  · rw [Function.update_of_ne e, Function.update_of_ne e]
    exact hs s' i (h1 s' e hi)

theorem sim_loop {α : Type} {N : ℕ} (f : (i : ℕ) → i < N → α → Cmd F α) (K : ℕ → (s : Slot) → Set s.sh.Idx) (hf : ∀ i hi a, Sim (K i) (K (i + 1)) (f i hi a)) :
    ∀ (n k : ℕ) (h : k + n = N) (a : α), Sim (K k) (K N) (loopN f n k h a)
  | 0, k, h, a => by
    have : k = N := by omega
    subst this
    exact sim_pure _ a
  | n + 1, k, h, a => sim_bind (hf k _ a) fun b => sim_loop f K hf n (k + 1) _ b

/-! ## The body's pieces -/

variable (A : Set S1024x512.Idx) (B C : Set S1024x1024.Idx)

theorem tap_sim (n : ℕ) (hp hc hb) (b base lane : ℕ) (h1 : base + n ≤ 1088) (h2 : lane + 128 ≤ 512) (t : ℕ) :
    Sim (F := F) (Known A B C) (Known A B C) (tap n hp hc hb b base lane h1 h2 t) :=
  sim_bind (sim_rd _ _ _ fun _ => trivial) fun _ => sim_bind (sim_rd _ _ _ fun _ => trivial) fun _ => sim_pure _ _

theorem psum_sim (n : ℕ) (hp hc hb) (b base lane : ℕ) (h1 : base + n ≤ 1088) (h2 : lane + 128 ≤ 512) (taps : ℕ) :
    Sim (F := F) (Known A B C) (Known A B C) (psum n hp hc hb b base lane h1 h2 taps) :=
  sim_bind (tap_sim A B C n hp hc hb b base lane h1 h2 0) fun _ =>
    sim_loop _ (fun _ => Known A B C) (fun t _ acc => sim_bind (tap_sim A B C n hp hc hb b base lane h1 h2 t) fun _ => sim_pure _ _) _ _ _ _

/-- The sums stored once lanes before block `cb` and, in it, rows before `64 rb` are done. -/
def doneCv (cb rb : ℕ) : Set S1024x512.Idx := fun i => (i 1).val < 128 * cb ∨ ((i 1).val < 128 * (cb + 1) ∧ (i 0).val < 64 * rb)

theorem convBlock_sim (cb : ℕ) (h2 : 128 * cb + 128 ≤ 512) (rb : ℕ) (hrb : rb < 16) (hd : FVec F S8x128 .f32 × FVec F S8x128 .f32 × FVec F S8x128 .f32) :
    Sim (Known (doneCv cb rb) B C) (Known (doneCv cb (rb + 1)) B C) (convBlock (128 * cb) h2 rb hrb hd) := by
  refine sim_bind (psum_sim _ _ _ _ _ _ _ _ _ _ _ _ _) fun _ => sim_bind (psum_sim _ _ _ _ _ _ _ _ _ _ _ _ _) fun _ =>
    sim_bind (psum_sim _ _ _ _ _ _ _ _ _ _ _ _ _) fun _ => sim_bind (psum_sim _ _ _ _ _ _ _ _ _ _ _ _ _) fun _ =>
    sim_drop _ _ _ _ (sim_bind (sim_wrs _ _ _ _ ?_ ?_) fun _ => sim_pure _ _)
  · intro s' hs'
    cases s' <;> first | exact absurd rfl hs' | exact fun _ h => h
  · intro i hi hn
    by_contra hc
    refine hn ?_
    rw [Rect.mem_set_unit]
    have hi' : (i 1).val < 128 * cb ∨ ((i 1).val < 128 * (cb + 1) ∧ (i 0).val < 64 * (rb + 1)) := hi
    have hc' : ¬ ((i 1).val < 128 * cb ∨ ((i 1).val < 128 * (cb + 1) ∧ (i 0).val < 64 * rb)) := hc
    intro a
    fin_cases a
    · exact ⟨by show 64 * rb ≤ (i 0).val; omega, by show (i 0).val < 64 * rb + 64; omega⟩
    · exact ⟨by show 128 * cb ≤ (i 1).val; omega, by show (i 1).val < 128 * cb + 128; omega⟩

theorem convLane_sim (cb : ℕ) (hcb : cb < 4) (u : Unit) :
    Sim (F := F) (Known (doneCv cb 0) B C) (Known (doneCv (cb + 1) 0) B C) (convLane cb hcb u) := by
  refine sim_bind (psum_sim _ _ _ _ _ _ _ _ _ _ _ _ _) fun _ => sim_bind (psum_sim _ _ _ _ _ _ _ _ _ _ _ _ _) fun _ =>
    sim_bind (psum_sim _ _ _ _ _ _ _ _ _ _ _ _ _) fun _ => sim_bind
      (sim_weaken (sim_loop _ (fun rb => Known (doneCv cb rb) B C) (fun rb h hd => convBlock_sim B C cb _ rb h hd) _ _ _ _) ?_) fun _ => sim_pure _ _
  intro s
  cases s <;> first | exact fun _ h => h | skip
  intro i hi
  have hi' : (i 1).val < 128 * (cb + 1) ∨ ((i 1).val < 128 * (cb + 1 + 1) ∧ (i 0).val < 64 * 0) := hi
  have h0 : (i 0).val < 1024 := (i 0).isLt
  show (i 1).val < 128 * cb ∨ ((i 1).val < 128 * (cb + 1) ∧ (i 0).val < 64 * 16)
  omega

theorem gluBlock_sim (hn : FVec F S1024x1024 .bf16) (rc : ℕ) (hrc : rc < 8) (u : Unit) :
    Sim (Known A B C) (Known A B C) (gluBlock hn rc hrc u) := by
  refine sim_bind (sim_rd _ _ _ fun _ => trivial) fun _ => sim_drop _ _ _ _ (sim_bind (K1 := Known A B C) (sim_wrs _ _ _ _ ?_ (fun _ _ _ => trivial)) fun _ =>
    sim_drop _ _ _ _ (sim_wrs _ _ _ _ ?_ (fun _ _ _ => trivial)))
  all_goals
    intro s' hs'
    cases s' <;> first | exact absurd rfl hs' | exact fun _ h => h

/-- The concatenated groups stored once the first group is and, of the second, the blocks before `blk` and heads before `hd` in it. -/
def doneAb (blk hd : ℕ) : Set S1024x1024.Idx := fun i => (i 1).val < 512 ∨ (i 0).val < 256 * blk ∨ ((i 0).val < 256 * (blk + 1) ∧ (i 1).val < 512 + 128 * hd)

theorem convTail_sim : Sim (F := F) (Known (doneCv 4 0) ∅ ∅) (Known (doneCv 4 0) (doneAb 0 0) ∅) convTail := by
  refine sim_bind (sim_rd _ _ _ fun _ => trivial) fun _ => sim_drop _ _ _ _ (sim_bind (K1 := Known (doneCv 4 0) ∅ ∅) (sim_wrs _ _ _ _ ?_ (fun _ _ _ => trivial)) fun _ =>
    sim_bind (sim_rd _ _ _ ?_) fun _ => sim_bind (sim_rd _ _ _ fun _ => trivial) fun _ => sim_bind (sim_rd _ _ _ fun _ => trivial) fun _ =>
    sim_bind (sim_rd _ _ _ fun _ => trivial) fun _ => sim_drop _ _ _ _ (sim_wrs _ _ _ _ ?_ ?_))
  · intro s' hs'
    cases s' <;> first | exact absurd rfl hs' | exact fun _ h => h
  · intro j
    exact Or.inl (Fin.isLt _)
  · intro s' hs'
    cases s' <;> first | exact absurd rfl hs' | exact fun _ h => h
  · intro i hi hn
    refine absurd ?_ hn
    rw [Rect.mem_set_unit]
    have hi' : (i 1).val < 512 ∨ (i 0).val < 256 * 0 ∨ ((i 0).val < 256 * (0 + 1) ∧ (i 1).val < 512 + 128 * 0) := hi
    have h0 : (i 0).val < 1024 := (i 0).isLt
    intro a
    fin_cases a
    · exact ⟨Nat.zero_le _, by show (i 0).val < 0 + 1024; omega⟩
    · exact ⟨Nat.zero_le _, by show (i 1).val < 0 + 512; omega⟩

theorem retHead_sim (u : FVec F S1024x2048 .f32) (blk : ℕ) (hb : blk < 4) (cos cosk sin sink : FVec F S256x128 .f32) (hd : ℕ) (hh : hd < 4) (a : Unit) :
    Sim (Known A (doneAb blk hd) C) (Known A (doneAb blk (hd + 1)) C) (retHead u blk hb cos cosk sin sink hd hh a) := by
  refine sim_bind (sim_rd _ _ _ fun _ => trivial) fun _ => sim_bind (sim_rd _ _ _ fun _ => trivial) fun _ => sim_bind (sim_rd _ _ _ fun _ => trivial) fun _ =>
    sim_bind (sim_rd _ _ _ fun _ => trivial) fun _ => sim_bind (sim_rd _ _ _ fun _ => trivial) fun _ => sim_drop _ _ _ _ (sim_bind (K1 := Known A (doneAb blk hd) C) (sim_wrs _ _ _ _ ?_ (fun _ _ _ => trivial)) fun _ =>
    sim_bind (sim_rd _ _ _ fun _ => trivial) fun _ => sim_drop _ _ _ _ (sim_wrs _ _ _ _ ?_ ?_))
  · intro s' hs'
    cases s' <;> first | exact absurd rfl hs' | exact fun _ h => h
  · intro s' hs'
    cases s' <;> first | exact absurd rfl hs' | exact fun _ h => h
  · intro i hi hn
    by_contra hc
    refine hn ?_
    rw [Rect.mem_set_unit]
    have hi' : (i 1).val < 512 ∨ (i 0).val < 256 * blk ∨ ((i 0).val < 256 * (blk + 1) ∧ (i 1).val < 512 + 128 * (hd + 1)) := hi
    have hc' : ¬ ((i 1).val < 512 ∨ (i 0).val < 256 * blk ∨ ((i 0).val < 256 * (blk + 1) ∧ (i 1).val < 512 + 128 * hd)) := hc
    intro a
    fin_cases a
    · exact ⟨by show 256 * blk ≤ (i 0).val; omega, by show (i 0).val < 256 * blk + 256; omega⟩
    · exact ⟨by show 512 + 128 * hd ≤ (i 1).val; omega, by show (i 1).val < 512 + 128 * hd + 128; omega⟩

theorem retBlock_sim (u : FVec F S1024x2048 .f32) (blk : ℕ) (hb : blk < 4) :
    Sim (Known A (doneAb blk 0) C) (Known A (doneAb (blk + 1) 0) C) (retBlock u blk hb) := by
  refine sim_bind (sim_rd _ _ _ fun _ => trivial) fun _ => sim_bind (sim_rd _ _ _ fun _ => trivial) fun _ => sim_bind (sim_rd _ _ _ fun _ => trivial) fun _ =>
    sim_bind (sim_rd _ _ _ fun _ => trivial) fun _ =>
      sim_weaken (sim_loop _ (fun hd => Known A (doneAb blk hd) C) (fun hd h a => retHead_sim A C u blk hb _ _ _ _ hd h a) _ _ _ _) ?_
  intro s
  cases s <;> first | exact fun _ h => h | skip
  intro i hi
  have hi' : (i 1).val < 512 ∨ (i 0).val < 256 * (blk + 1) ∨ ((i 0).val < 256 * (blk + 1 + 1) ∧ (i 1).val < 512 + 128 * 0) := hi
  have h1 : (i 1).val < 1024 := (i 1).isLt
  show (i 1).val < 512 ∨ (i 0).val < 256 * blk ∨ ((i 0).val < 256 * (blk + 1) ∧ (i 1).val < 512 + 128 * 4)
  omega

/-- The output block's rows stored once `h` halves are done. -/
def doneOut (h : ℕ) : Set S1024x1024.Idx := fun i => (i 0).val < 512 * h

theorem half_sim (x : FVec F S1024x1024 .f32) (u : FVec F S1024x2048 .f32) (h : ℕ) (hh : h < 2) (a : Unit) :
    Sim (Known A (doneAb (2 * h) 0) (doneOut h)) (Known A (doneAb (2 * (h + 1)) 0) (doneOut (h + 1))) (half x u h hh a) := by
  refine sim_bind (retBlock_sim A _ u (2 * h) _) fun _ => sim_bind (retBlock_sim A _ u (2 * h + 1) _) fun _ =>
    sim_bind (sim_rd _ _ _ ?_) fun _ => sim_bind (sim_rd _ _ _ fun _ => trivial) fun _ => sim_drop _ _ _ _ (sim_wrs _ _ _ _ ?_ ?_)
  · intro j
    refine Or.inr (Or.inl ?_)
    show 512 * h + 1 * (j 0).val < 256 * (2 * h + 1 + 1)
    have hj : (j 0).val < 512 := (j 0).isLt
    omega
  · intro s' hs'
    cases s' <;> first | exact absurd rfl hs' | exact fun _ h => h
  · intro i hi hn
    by_contra hc
    refine hn ?_
    rw [Rect.mem_set_unit]
    have hi' : (i 0).val < 512 * (h + 1) := hi
    have hc' : ¬ (i 0).val < 512 * h := hc
    have h1 : (i 1).val < 1024 := (i 1).isLt
    intro a
    fin_cases a
    · exact ⟨by show 512 * h ≤ (i 0).val; omega, by show (i 0).val < 512 * h + 512; omega⟩
    · exact ⟨Nat.zero_le _, by show (i 1).val < 0 + 1024; omega⟩

theorem mainBody_sim : Sim (F := F) (Known (doneCv 0 0) ∅ ∅) (fun _ => Set.univ) mainBody := by
  refine sim_bind (sim_rd _ _ _ fun _ => trivial) fun _ => sim_bind (sim_rd _ _ _ fun _ => trivial) fun _ =>
    sim_bind (sim_loop _ (fun _ => Known (doneCv 0 0) ∅ ∅) (fun rc h a => gluBlock_sim _ _ _ _ rc h a) _ _ _ _) fun _ =>
    sim_bind (sim_rd _ _ _ fun _ => trivial) fun _ =>
    sim_bind (sim_loop _ (fun cb => Known (doneCv cb 0) ∅ ∅) (fun cb h a => convLane_sim _ _ cb h a) _ _ _ _) fun _ =>
    sim_bind (sim_weaken convTail_sim (K2 := Known (doneCv 4 0) (doneAb (2 * 0) 0) (doneOut 0)) ?_) fun _ =>
    sim_weaken (sim_loop _ (fun h => Known (doneCv 4 0) (doneAb (2 * h) 0) (doneOut h)) (fun h hh a => half_sim _ _ _ h hh a) _ _ _ _) ?_
  · intro s
    cases s <;> first | exact fun _ h => h | skip
    intro i hi
    exact absurd hi (Nat.not_lt_zero _)
  · intro s
    cases s <;> first | exact fun _ h => h | skip
    · intro i _
      show (i 0).val < 512 * 2
      exact (i 0).isLt
    · intro i _
      exact Or.inl (i 1).isLt
    · intro i _
      exact Or.inr (Or.inl (i 0).isLt)

/-- The body's state after a point depends on the state before it only outside the three buffers. -/
theorem mainBody_indep (σ σ' : Mst F) (h : ∀ s, s ≠ .cv → s ≠ .ab → s ≠ .out → σ s = σ' s) : (mainBody.run σ).2 = (mainBody.run σ').2 := by
  funext s i
  refine (mainBody_sim σ σ' ?_).2 s i trivial
  intro s i hi
  cases s <;> first | exact congrFun (h _ (by decide) (by decide) (by decide)) i | skip
  · exact absurd hi id
  · have hi' : (i 1).val < 128 * 0 ∨ ((i 1).val < 128 * (0 + 1) ∧ (i 0).val < 64 * 0) := hi
    omega
  · exact absurd hi id

end Cert.MixIdeal.Run

end
-- ==== Proof.Mix.Keeps.lean ====
/- The mixer's body leaves the buffers it only reads as they are. -/
module

public import proofs.«01_k».proof.Proof.Mix.Body

@[expose] public section

set_option maxRecDepth 16384

noncomputable section

namespace Cert.MixIdeal.Run

open Idealize.ShloMosaic Idealize.SL.Sem
open Cert.MixIdeal
open Cert.MixIdeal.K0.Facts₀ Cert.MixIdeal.Shapes1.Facts₀ Cert.MixIdeal.Shapes2.Facts₀

variable {F : FTy → Type} [FloatOps F]

/-- A slot the body only reads. -/
abbrev Input (s : Slot) : Prop := s ≠ .out ∧ s ≠ .hb ∧ s ≠ .cv ∧ s ≠ .ab ∧ s ≠ .st

/-- The program leaves the slot as it is. -/
def Keeps {α : Type} (s : Slot) (p : Cmd F α) : Prop := ∀ σ : Mst F, (p.run σ).2 s = σ s

variable {s : Slot}

theorem keeps_pure {α : Type} (a : α) : Keeps s (pure a : Cmd F α) := fun _ => rfl
theorem keeps_bind {α β : Type} {p : Cmd F α} {f : α → Cmd F β} (h : Keeps s p) (h' : ∀ a, Keeps s (f a)) : Keeps s (p >>= f) := fun σ => by
  rw [run_bind, h' _ _, h σ]
theorem keeps_rd (s' : Slot) (r : Rect s'.sh) (h) : Keeps (F := F) s (rd s' r h) := fun _ => rfl
theorem keeps_wrs (s' : Slot) (r : Rect s'.sh) (w) (h) (hne : s ≠ s') : Keeps (F := F) s (wrs s' r w h) := fun σ => by
  simp only [run_wrs, put]; exact Function.update_of_ne hne _ _
theorem keeps_loop {α : Type} {N : ℕ} (f : (i : ℕ) → i < N → α → Cmd F α) (hf : ∀ i hi a, Keeps s (f i hi a)) :
    ∀ (n k : ℕ) (h : k + n = N) (a : α), Keeps s (loopN f n k h a)
  | 0, k, h, a => keeps_pure a
  | n + 1, k, h, a => keeps_bind (hf k _ a) fun b => keeps_loop f hf n (k + 1) _ b

theorem tap_keeps (n : ℕ) (hp hc hb) (b base lane : ℕ) (h1 : base + n ≤ 1088) (h2 : lane + 128 ≤ 512) (t : ℕ) : Keeps (F := F) s (tap n hp hc hb b base lane h1 h2 t) :=
  keeps_bind (keeps_rd _ _ _) fun _ => keeps_bind (keeps_rd _ _ _) fun _ => keeps_pure _
theorem psum_keeps (n : ℕ) (hp hc hb) (b base lane : ℕ) (h1 : base + n ≤ 1088) (h2 : lane + 128 ≤ 512) (taps : ℕ) : Keeps (F := F) s (psum n hp hc hb b base lane h1 h2 taps) :=
  keeps_bind (tap_keeps n hp hc hb b base lane h1 h2 0) fun _ => keeps_loop _ (fun t _ acc => keeps_bind (tap_keeps n hp hc hb b base lane h1 h2 t) fun _ => keeps_pure _) _ _ _ _

theorem convBlock_keeps (hs : Input s) (lane : ℕ) (h2 : lane + 128 ≤ 512) (rb : ℕ) (hrb : rb < 16) (hd : FVec F S8x128 .f32 × FVec F S8x128 .f32 × FVec F S8x128 .f32) :
    Keeps s (convBlock lane h2 rb hrb hd) :=
  keeps_bind (psum_keeps _ _ _ _ _ _ _ _ _ _) fun _ => keeps_bind (psum_keeps _ _ _ _ _ _ _ _ _ _) fun _ => keeps_bind (psum_keeps _ _ _ _ _ _ _ _ _ _) fun _ =>
    keeps_bind (psum_keeps _ _ _ _ _ _ _ _ _ _) fun _ => keeps_bind (keeps_rd _ _ _) fun _ => keeps_bind (keeps_wrs _ _ _ _ hs.2.2.1) fun _ => keeps_pure _

theorem convLane_keeps (hs : Input s) (cb : ℕ) (hcb : cb < 4) (u : Unit) : Keeps (F := F) s (convLane cb hcb u) :=
  keeps_bind (psum_keeps _ _ _ _ _ _ _ _ _ _) fun _ => keeps_bind (psum_keeps _ _ _ _ _ _ _ _ _ _) fun _ => keeps_bind (psum_keeps _ _ _ _ _ _ _ _ _ _) fun _ =>
    keeps_bind (keeps_loop _ (fun rb h hd => convBlock_keeps hs _ _ rb h hd) _ _ _ _) fun _ => keeps_pure _

theorem gluBlock_keeps (hs : Input s) (hn : FVec F S1024x1024 .bf16) (rc : ℕ) (hrc : rc < 8) (u : Unit) : Keeps s (gluBlock hn rc hrc u) :=
  keeps_bind (keeps_rd _ _ _) fun _ => keeps_bind (keeps_rd _ _ _) fun _ => keeps_bind (keeps_wrs _ _ _ _ hs.2.1) fun _ => keeps_bind (keeps_rd _ _ _) fun _ => keeps_wrs _ _ _ _ hs.2.1

theorem convTail_keeps (hs : Input s) : Keeps (F := F) s convTail :=
  keeps_bind (keeps_rd _ _ _) fun _ => keeps_bind (keeps_rd _ _ _) fun _ => keeps_bind (keeps_wrs _ _ _ _ hs.2.1) fun _ => keeps_bind (keeps_rd _ _ _) fun _ =>
    keeps_bind (keeps_rd _ _ _) fun _ => keeps_bind (keeps_rd _ _ _) fun _ => keeps_bind (keeps_rd _ _ _) fun _ => keeps_bind (keeps_rd _ _ _) fun _ => keeps_wrs _ _ _ _ hs.2.2.2.1

theorem retHead_keeps (hs : Input s) (u : FVec F S1024x2048 .f32) (blk : ℕ) (hb : blk < 4) (cos cosk sin sink : FVec F S256x128 .f32) (hd : ℕ) (hh : hd < 4) (a : Unit) :
    Keeps s (retHead u blk hb cos cosk sin sink hd hh a) :=
  keeps_bind (keeps_rd _ _ _) fun _ => keeps_bind (keeps_rd _ _ _) fun _ => keeps_bind (keeps_rd _ _ _) fun _ => keeps_bind (keeps_rd _ _ _) fun _ =>
    keeps_bind (keeps_rd _ _ _) fun _ => keeps_bind (keeps_rd _ _ _) fun _ => keeps_bind (keeps_wrs _ _ _ _ hs.2.2.2.2) fun _ => keeps_bind (keeps_rd _ _ _) fun _ =>
    keeps_bind (keeps_rd _ _ _) fun _ => keeps_wrs _ _ _ _ hs.2.2.2.1

theorem retBlock_keeps (hs : Input s) (u : FVec F S1024x2048 .f32) (blk : ℕ) (hb : blk < 4) : Keeps s (retBlock u blk hb) :=
  keeps_bind (keeps_rd _ _ _) fun _ => keeps_bind (keeps_rd _ _ _) fun _ => keeps_bind (keeps_rd _ _ _) fun _ => keeps_bind (keeps_rd _ _ _) fun _ =>
    keeps_loop _ (fun hd h a => retHead_keeps hs u blk hb _ _ _ _ hd h a) _ _ _ _

theorem half_keeps (hs : Input s) (x : FVec F S1024x1024 .f32) (u : FVec F S1024x2048 .f32) (h : ℕ) (hh : h < 2) (a : Unit) : Keeps s (half x u h hh a) :=
  keeps_bind (retBlock_keeps hs u (2 * h) _) fun _ => keeps_bind (retBlock_keeps hs u (2 * h + 1) _) fun _ => keeps_bind (keeps_rd _ _ _) fun _ => keeps_bind (keeps_rd _ _ _) fun _ =>
    keeps_bind (keeps_rd _ _ _) fun _ => keeps_wrs _ _ _ _ hs.1

theorem mainBody_keeps_all (hs : Input s) : Keeps (F := F) s mainBody := by
  refine keeps_bind (keeps_rd _ _ _) fun _ => keeps_bind (keeps_rd _ _ _) fun _ => keeps_bind (keeps_loop _ (fun rc h a => gluBlock_keeps hs _ rc h a) _ _ _ _) fun _ =>
    keeps_bind (keeps_rd _ _ _) fun _ => keeps_bind (keeps_loop _ (fun cb h a => convLane_keeps hs cb h a) _ _ _ _) fun _ => keeps_bind (convTail_keeps hs) fun _ =>
    keeps_loop _ (fun h hh a => half_keeps hs _ _ h hh a) _ _ _ _

theorem mainBody_keeps (s : Slot) (hs : Input s) (σ : Mst F) : (mainBody.run σ).2 s = σ s := mainBody_keeps_all hs σ

end Cert.MixIdeal.Run

end
-- ==== Proof.Mix.Frame.lean ====
/- The mixer call's run: what its scratch and its output block hold point by point, the body's obligation, the launch and the
   argument arrays after it. -/
module

public import proofs.«01_k».proof.Proof.Mix.Fill
public import proofs.«01_k».proof.Proof.Mix.Indep
public import proofs.«01_k».proof.Proof.Mix.Keeps
public import Idealize.ShloMosaic.Lib.Claim

@[expose] public section

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixIdeal
open Cert.MixIdeal.Gen hiding hmain frame_of before0_0_of before0_1_of before0_2_of before0_3_of before0_4_of before0_5_of before0_6_of before0_7_of before0_8_of before0_9_of before0_10_of before0_11_of before0_12_of

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers of a point and what they hold -/

/-- The buffers point `t` is called with. -/
abbrev Mt (t : Fin cfg0.N) : Mem := mkM (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) scM0_0 scM0_1 scM0_2 scM0_3 scM0_4 scM0_5

/-- A point's inputs and what the other seven buffers hold. -/
def fam (c : Dev nD) (t : Fin cfg0.N) (o : FVec F S1024x1024 .f32) (win : FVec F S1024x3072 .bf16) (wout : FVec F S1024x1024 .bf16) (hb : FVec F S2x1088x512 .f32)
    (cv : FVec F S1024x512 .f32) (ab : FVec F S1024x1024 .bf16) (st : FVec F S4x128x128 .f32) : Mst F
  | .x => iblk m c 0 t
  | .g => iblk m c 1 t
  | .cw => iblk m c 2 t
  | .cb => iblk m c 3 t
  | .lng => iblk m c 4 t
  | .lnb => iblk m c 5 t
  | .rg => iblk m c 6 t
  | .cos => iblk m c 7 t
  | .sin => iblk m c 8 t
  | .dm => iblk m c 9 t
  | .wq => iblk m c 10 t
  | .wk => iblk m c 11 t
  | .gl => iblk m c 12 t
  | .out => o
  | .win => win
  | .wout => wout
  | .hb => hb
  | .cv => cv
  | .ab => ab
  | .st => st

/-- The buffers held, listed. -/
theorem held_eq (c : Dev nD) (t : Fin cfg0.N) (σ : Mst F) : held c (Mt t) σ = iprop(owns (c : Thread nD τ) (ms0_0 t) fullShare (σ .x) ∗ owns (c : Thread nD τ) (ms0_1 t) fullShare (σ .g) ∗ owns (c : Thread nD τ) (ms0_2 t) fullShare (σ .cw) ∗ owns (c : Thread nD τ) (ms0_3 t) fullShare (σ .cb) ∗ owns (c : Thread nD τ) (ms0_4 t) fullShare (σ .lng) ∗ owns (c : Thread nD τ) (ms0_5 t) fullShare (σ .lnb) ∗ owns (c : Thread nD τ) (ms0_6 t) fullShare (σ .rg) ∗ owns (c : Thread nD τ) (ms0_7 t) fullShare (σ .cos) ∗ owns (c : Thread nD τ) (ms0_8 t) fullShare (σ .sin) ∗ owns (c : Thread nD τ) (ms0_9 t) fullShare (σ .dm) ∗ owns (c : Thread nD τ) (ms0_10 t) fullShare (σ .wq) ∗ owns (c : Thread nD τ) (ms0_11 t) fullShare (σ .wk) ∗ owns (c : Thread nD τ) (ms0_12 t) fullShare (σ .gl) ∗ owns (c : Thread nD τ) (ms0_13 t) fullShare (σ .out) ∗ owns (c : Thread nD τ) scM0_0 fullShare (σ .win) ∗ owns (c : Thread nD τ) scM0_1 fullShare (σ .wout) ∗ owns (c : Thread nD τ) scM0_2 fullShare (σ .hb) ∗ owns (c : Thread nD τ) scM0_3 fullShare (σ .cv) ∗ owns (c : Thread nD τ) scM0_4 fullShare (σ .ab) ∗ owns (c : Thread nD τ) scM0_5 fullShare (σ .st)) := by
  unfold held
  rw [BI.bigSep_eq_bigSepL_of_eq [.x, .g, .cw, .cb, .lng, .lnb, .rg, .cos, .sin, .dm, .wq, .wk, .gl, .out, .win, .wout, .hb, .cv, .ab, .st] (by decide) (by decide)]
  rfl

/-- The point after its first region, as a function of what the buffers hold. -/
def rest (t : Fin cfg0.N) (σ : Mst F) : Mst F := (mainBody.run (if cond2 (grid0.coords t) then (zero.run σ).2 else σ)).2

theorem rest_run (c : Dev nD) (t : Fin cfg0.N) (σ : Mst F) (Q : PUnit → sProp 𝕄) :
    iprop(held c (Mt t) σ ∗ (held c (Mt t) (rest t σ) -∗ Q ⟨⟩)) ⊢ wp frame (wpE (defs₀ (F := F)) Variants.none (c : Thread nD τ) none) Set.univ
      ((if h : cond2 (grid0.coords t) then (zero (F := F)).prog (Mt t) (Memref.isWhole_whole _) else pure ⟨⟩) >>= fun _ => (mainBody (F := F)).prog (Mt t) (Memref.isWhole_whole _)) Q := by
  rw [wp_bind]
  unfold rest
  by_cases h : cond2 (grid0.coords t)
  · rw [dif_pos h, if_pos h]
    iintro ⟨H, K⟩
    iapply (prog_run c (Mt t) (Memref.isWhole_whole _) zero σ)
    isplitl [H]; · iexact H
    iintro H
    iapply (prog_run c (Mt t) (Memref.isWhole_whole _) mainBody)
    isplitl [H]; · iexact H
    iexact K
  · rw [dif_neg h, if_neg h, show (pure ⟨⟩ : PG F PUnit) = Prog.ret ⟨⟩ from rfl, wp_ret]
    iintro ⟨H, K⟩
    imodintro
    iapply (prog_run c (Mt t) (Memref.isWhole_whole _) mainBody)
    isplitl [H]; · iexact H
    iexact K

/-! ## What does not matter -/

theorem rest_indep (c : Dev nD) (t : Fin cfg0.N) (o o' win wout hb cv cv' ab ab' st) :
    rest t (fam (F := F) m c t o win wout hb cv ab st) = rest t (fam m c t o' win wout hb cv' ab' st) := by
  unfold rest
  refine mainBody_indep _ _ fun s h1 h2 h3 => ?_
  split
  · cases s <;> first | exact absurd rfl h1 | exact absurd rfl h2 | exact absurd rfl h3 | rfl
  · cases s <;> first | exact absurd rfl h1 | exact absurd rfl h2 | exact absurd rfl h3 | rfl

/-- A buffer overwritten whole does not keep what it held. -/
theorem overlay_whole {sh : Shape} {e : EltTy} (r : Rect sh) (hr : ∀ i, i ∈ r.set) (f f' : sh.Idx → Elt F e) (w : r.shape.Idx → Elt F e) : r.overlay f w = r.overlay f' w := by
  funext i
  obtain ⟨x, -, rfl⟩ := Finset.mem_map.mp (by have := hr i; rw [← Rect.map_emb_univ] at this; exact this)
  rw [Rect.overlay_emb, Rect.overlay_emb]

theorem rest_indep₀ (c : Dev nD) (t : Fin cfg0.N) (hc : cond2 (grid0.coords t)) (o o' win wout hb cv cv' ab ab' st st') :
    rest t (fam (F := F) m c t o win wout hb cv ab st) = rest t (fam m c t o' win wout hb cv' ab' st') := by
  unfold rest
  rw [if_pos hc, if_pos hc]
  refine mainBody_indep _ _ fun s h1 h2 h3 => ?_
  cases s <;> first | exact absurd rfl h1 | exact absurd rfl h2 | exact absurd rfl h3 | rfl | skip
  refine overlay_whole (Rect.unit (s := S4x128x128) ![0, 0, 0] S4x128x128.size Shapes1.Facts₀.inb_S4x128x128_S4x128x128_0_0_0) (fun i => ?_) _ _ _
  rw [Rect.mem_set_unit]
  intro a
  fin_cases a <;> exact ⟨Nat.zero_le _, by show (i _).val < 0 + _; rw [Nat.zero_add]; exact Fin.isLt _⟩

theorem rest_keeps (t : Fin cfg0.N) (σ : Mst F) (s : Slot) (hs : Input s) : rest t σ s = σ s := by
  unfold rest
  rw [mainBody_keeps s hs]
  split
  · obtain ⟨h1, h2, h3, h4, h5⟩ := hs
    cases s <;> first | exact absurd rfl h1 | exact absurd rfl h2 | exact absurd rfl h3 | exact absurd rfl h4 | exact absurd rfl h5 | rfl
  · rfl

/-! ## What the buffers hold point by point -/

/-- What the buffers hold after `n` points. -/
def stAt (c : Dev nD) : ℕ → Mst F
  | 0 => fam m c ⟨0, by rw [show cfg0.N = 16 from N_0]; decide⟩ (constant S1024x1024 .f32 0x00000000#32) (W1 (V m c main_arg2)) (W2 (V m c main_arg8)) cleared
      (constant S1024x512 .f32 0x00000000#32) (constant S1024x1024 .bf16 0x0000#16) (constant S4x128x128 .f32 0x00000000#32)
  | n + 1 => if h : n < cfg0.N then rest ⟨n, h⟩ (fam m c ⟨n, h⟩ (stAt c n .out) (stAt c n .win) (stAt c n .wout) (stAt c n .hb) (stAt c n .cv) (stAt c n .ab) (stAt c n .st)) else stAt c n

theorem stAt_succ (c : Dev nD) (t : Fin cfg0.N) :
    stAt m c (t.val + 1) = rest t (fam m c t (stAt m c t.val .out) (stAt m c t.val .win) (stAt m c t.val .wout) (stAt m c t.val .hb) (stAt m c t.val .cv) (stAt m c t.val .ab) (stAt m c t.val .st)) := by
  rw [stAt, dif_pos t.isLt]

theorem stAt_x (c : Dev nD) (t : Fin cfg0.N) : stAt m c (t.val + 1) .x = iblk m c 0 t := by rw [stAt_succ, rest_keeps _ _ _ (by decide)]; rfl
theorem stAt_g (c : Dev nD) (t : Fin cfg0.N) : stAt m c (t.val + 1) .g = iblk m c 1 t := by rw [stAt_succ, rest_keeps _ _ _ (by decide)]; rfl
theorem stAt_cw (c : Dev nD) (t : Fin cfg0.N) : stAt m c (t.val + 1) .cw = iblk m c 2 t := by rw [stAt_succ, rest_keeps _ _ _ (by decide)]; rfl
theorem stAt_cb (c : Dev nD) (t : Fin cfg0.N) : stAt m c (t.val + 1) .cb = iblk m c 3 t := by rw [stAt_succ, rest_keeps _ _ _ (by decide)]; rfl
theorem stAt_lng (c : Dev nD) (t : Fin cfg0.N) : stAt m c (t.val + 1) .lng = iblk m c 4 t := by rw [stAt_succ, rest_keeps _ _ _ (by decide)]; rfl
theorem stAt_lnb (c : Dev nD) (t : Fin cfg0.N) : stAt m c (t.val + 1) .lnb = iblk m c 5 t := by rw [stAt_succ, rest_keeps _ _ _ (by decide)]; rfl
theorem stAt_rg (c : Dev nD) (t : Fin cfg0.N) : stAt m c (t.val + 1) .rg = iblk m c 6 t := by rw [stAt_succ, rest_keeps _ _ _ (by decide)]; rfl
theorem stAt_cos (c : Dev nD) (t : Fin cfg0.N) : stAt m c (t.val + 1) .cos = iblk m c 7 t := by rw [stAt_succ, rest_keeps _ _ _ (by decide)]; rfl
theorem stAt_sin (c : Dev nD) (t : Fin cfg0.N) : stAt m c (t.val + 1) .sin = iblk m c 8 t := by rw [stAt_succ, rest_keeps _ _ _ (by decide)]; rfl
theorem stAt_dm (c : Dev nD) (t : Fin cfg0.N) : stAt m c (t.val + 1) .dm = iblk m c 9 t := by rw [stAt_succ, rest_keeps _ _ _ (by decide)]; rfl
theorem stAt_wq (c : Dev nD) (t : Fin cfg0.N) : stAt m c (t.val + 1) .wq = iblk m c 10 t := by rw [stAt_succ, rest_keeps _ _ _ (by decide)]; rfl
theorem stAt_wk (c : Dev nD) (t : Fin cfg0.N) : stAt m c (t.val + 1) .wk = iblk m c 11 t := by rw [stAt_succ, rest_keeps _ _ _ (by decide)]; rfl
theorem stAt_gl (c : Dev nD) (t : Fin cfg0.N) : stAt m c (t.val + 1) .gl = iblk m c 12 t := by rw [stAt_succ, rest_keeps _ _ _ (by decide)]; rfl

/-- The invariant from the second point on: as at the launch, with what six buffers hold named. -/
def PhiN (c : Dev nD) (n : ℕ) : sProp 𝕄 :=
  iprop(iprop(owns (c : Thread nD τ) scM0_0 fullShare (stAt m c n .win) ∗ owns (c : Thread nD τ) scM0_1 fullShare (stAt m c n .wout) ∗ owns (c : Thread nD τ) scM0_2 fullShare (stAt m c n .hb) ∗ owns (c : Thread nD τ) scM0_3 fullShare (stAt m c n .cv) ∗ owns (c : Thread nD τ) scM0_4 fullShare (stAt m c n .ab) ∗ owns (c : Thread nD τ) scM0_5 fullShare (stAt m c n .st) ∗ (∃ d, owns (c : Thread nD τ) scM0_6 fullShare d) ∗ (∃ d, owns (c : Thread nD τ) scM0_7 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_arg2) ∗ hbPt0 c hbM0_1 (V m c main_arg8)))

/-- Forgetting the names. -/
theorem PhiN_forget (c : Dev nD) (n : ℕ) : PhiN m c n ⊢ (Pipeline.ΦD osem0 spec0 H0 (V m) c : sProp 𝕄) := by
  rw [PhiD0_eq]
  unfold PhiN
  iintro ⟨⟨HS0, HS1, HS2, HS3, HS4, HS5, HS6, HS7⟩, Hg, Hq, Hh⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    iexact HS7
  isplitl [Hg]; · iexact Hg
  isplitl [Hq]; · iexact Hq
  iexact Hh

/-- The invariant at each point. -/
def Phi (c : Dev nD) (t : Fin (cfg0.N + 1)) : sProp 𝕄 :=
  if t.val = 0 then Pipeline.ΦD osem0 spec0 H0 (V m) c else PhiN m c t.val

theorem Phi_zero (c : Dev nD) (t : Fin (cfg0.N + 1)) (h : t.val = 0) : Phi m c t = Pipeline.ΦD osem0 spec0 H0 (V m) c := if_pos h
theorem Phi_pos (c : Dev nD) (t : Fin (cfg0.N + 1)) (h : ¬ t.val = 0) : Phi m c t = PhiN m c t.val := if_neg h

/-- What the body leaves in its output block at point `t`. -/
def outAt (c : Dev nD) (t : Fin cfg0.N) : Vec F S1024x1024 .f32 := stAt m c (t.val + 1) .out

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := Phi m c t
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body at point `t`: the first region, then the rest. -/
theorem bodyAt0_eq (t : Fin cfg0.N) : bodyAt0 (F := F) t =
    (if h : cond1 (grid0.coords t) then fillOps (F := F) (Memref.whole main_arg2) (Memref.whole main_arg8) scM0_0 (Memref.isWhole_whole _) scM0_1 (Memref.isWhole_whole _) scM0_2 scM0_6 cc0_scoped1 scM0_7 cc0_scoped3 else pure ⟨⟩) >>= fun _ =>
      (if h : cond2 (grid0.coords t) then (zero (F := F)).prog (Mt t) (Memref.isWhole_whole _) else pure ⟨⟩) >>= fun _ => (mainBody (F := F)).prog (Mt t) (Memref.isWhole_whole _) := by
  unfold bodyAt0
  rw [body_eq, fill_eq]

/-- A tile's number is zero at the first point. -/
theorem hcond2 (t : Fin cfg0.N) (h : t.val = 0) : cond2 (grid0.coords t) := by
  have e0 : (grid0.coords t 0).val = t.val / 1 % 16 := Pipeline.Grid.coords_val (G := grid0) t 0 (by decide : grid0.stride 0 = 1) (rfl : grid0.bound 0 = 16)
  rw [h] at e0
  simp only [cond2, tileNo, e0]
  decide

/-- What the first point leaves, -/
theorem restA (c : Dev nD) (t : Fin cfg0.N) (h : t.val = 0) (o cv ab st) :
    rest t (fam m c t o (W1 (V m c main_arg2)) (W2 (V m c main_arg8)) cleared cv ab st) = stAt m c (t.val + 1) := by
  rw [stAt_succ]
  obtain ⟨n, hn⟩ := t
  have : n = 0 := h
  subst this
  exact rest_indep₀ m c _ (hcond2 _ rfl) ..

/-- and a later one. -/
theorem restB (c : Dev nD) (t : Fin cfg0.N) (o) :
    rest t (fam m c t o (stAt m c t.val .win) (stAt m c t.val .wout) (stAt m c t.val .hb) (stAt m c t.val .cv) (stAt m c t.val .ab) (stAt m c t.val .st)) = stAt m c (t.val + 1) := by
  rw [stAt_succ]
  exact rest_indep m c t ..

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt0_eq, wp_bind]
  simp only [before0_0, before0_1, before0_2, before0_3, before0_4, before0_5, before0_6, before0_7, before0_8, before0_9, before0_10, before0_11, before0_12]
  rw [after0_0, after0_1, after0_2, after0_3, after0_4, after0_5, after0_6, after0_7, after0_8, after0_9, after0_10, after0_11, after0_12, after0_13]
  unfold Dat.owesAt Pipeline.owesWithin outAt
  rw [show (dats m 0 c).owed t.castSucc = 0 from rfl, show (dats m 0 c).owed t.succ = 0 from rfl]
  have hN : t.val < 16 := lt_of_lt_of_eq t.isLt (show cfg0.N = 16 from N_0)
  rw [show (dats m 0 c).Φ t.succ = PhiN m c (t.val + 1) from Phi_pos m c t.succ (by rw [Fin.val_succ]; omega)]
  by_cases h0 : t.val % 16 = 0
  · rw [show (dats m 0 c).Φ t.castSucc = Pipeline.ΦD osem0 spec0 H0 (V m) c from Phi_zero m c t.castSucc (by show t.val = 0; omega), PhiD0_eq]
    rw [dif_pos ((hcond1 t).mpr h0)]
    unfold PhiN
    iintro ⟨⟨⟨HS0, HS1, HS2, ⟨%e3, HS3⟩, ⟨%e4, HS4⟩, ⟨%e5, HS5⟩, HS6, HS7⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (fillRun c scM0_0 (Memref.isWhole_whole _) scM0_1 (Memref.isWhole_whole _) scM0_2 (Memref.isWhole_whole _) scM0_6 (Memref.isWhole_whole _) scM0_7 (Memref.isWhole_whole _) (V m c main_arg2) (V m c main_arg8) W)
    isplitl [HS0]; · iexact HS0
    isplitl [HS1]; · iexact HS1
    isplitl [HS2]; · iexact HS2
    isplitl [HS6]; · iexact HS6
    isplitl [HS7]; · iexact HS7
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨HS0, HS1, HS2, HS6, HS7, Hq0, Hq1, Hq2, Hq3, Hh0, Hh1, ⟨%W', HW⟩⟩
    iapply (rest_run c t (fam m c t ((dats m 0 c).before 13 t d13) (W1 (V m c main_arg2)) (W2 (V m c main_arg8)) cleared e3 e4 e5))
    rw [restA m c t (by omega), held_eq, held_eq]
    isplitl [H0 H1 H2 H3 H4 H5 H6 H7 H8 H9 H10 H11 H12 H13 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, HS0, HS1, HS2, HS3, HS4, HS5⟩
    rw [stAt_x, stAt_g, stAt_cw, stAt_cb, stAt_lng, stAt_lnb, stAt_rg, stAt_cos, stAt_sin, stAt_dm, stAt_wq, stAt_wk, stAt_gl]
    isplitl [HS0 HS1 HS2 HS3 HS4 HS5 HS6 HS7 Hg Hq0 Hq1 Hq2 Hq3 Hh0 Hh1]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m 0 c).Φ t.castSucc = PhiN m c t.val from Phi_pos m c t.castSucc (by show ¬ t.val = 0; omega)]
    rw [dif_neg (fun h => h0 ((hcond1 t).mp h)), show (pure ⟨⟩ : PG F PUnit) = Prog.ret ⟨⟩ from rfl, wp_ret]
    unfold PhiN
    iintro ⟨⟨⟨HS0, HS1, HS2, HS3, HS4, HS5, HS6, HS7⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    imodintro
    iapply (rest_run c t (fam m c t ((dats m 0 c).before 13 t d13) (stAt m c t.val .win) (stAt m c t.val .wout) (stAt m c t.val .hb) (stAt m c t.val .cv) (stAt m c t.val .ab) (stAt m c t.val .st)))
    rw [restB m c t, held_eq, held_eq]
    isplitl [H0 H1 H2 H3 H4 H5 H6 H7 H8 H9 H10 H11 H12 H13 HS0 HS1 HS2 HS3 HS4 HS5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      isplitl [HS4]; · iexact HS4
      iexact HS5
    iintro ⟨H0, H1, H2, H3, H4, H5, H6, H7, H8, H9, H10, H11, H12, H13, HS0, HS1, HS2, HS3, HS4, HS5⟩
    rw [stAt_x, stAt_g, stAt_cw, stAt_cb, stAt_lng, stAt_lnb, stAt_rg, stAt_cos, stAt_sin, stAt_dm, stAt_wq, stAt_wk, stAt_gl]
    isplitl [HS0 HS1 HS2 HS3 HS4 HS5 HS6 HS7 Hg Hq0 Hq1 Hq2 Hq3 Hh0 Hh1]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the frame run, and every semaphore counter at zero at every final state. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl)
    (hout := fun c => (show (dats m 0 c).Φ (Fin.last cfg0.N) ⊢ _ from by
      rw [show (dats m 0 c).Φ (Fin.last cfg0.N) = PhiN m c (Fin.last cfg0.N).val from Phi_pos m c (Fin.last cfg0.N) (by show ¬ cfg0.N = 0; rw [show cfg0.N = 16 from N_0]; omega)]
      exact PhiN_forget m c _))

/-- The frame run. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c)⟩) (run_main m ρ)

/-- The frame at any float arithmetic: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.MixIdeal.Run

end
-- ==== Proof.Mix.Same.lean ====
/- The mixer kernel and its idealization have the same text: their body tables are equal, so a run of the
   one is a run of the other. -/
module

public import proofs.«01_k».proof.Proof.Gen.Mix
public import proofs.«01_k».proof.Proof.Gen.MixIdeal

@[expose] public section

set_option maxRecDepth 10000000
set_option maxHeartbeats 0

namespace Cert.MixSame

open Idealize.ShloMosaic

variable {F : FTy → Type} [FloatOps F]

-- the two programs' signatures unfold to the same literals
set_option backward.isDefEq.respectTransparency.types false in
/-- The kernels' bodies are one body. -/
theorem defs₀_eq : Cert.Mix.defs₀ (F := F) = Cert.MixIdeal.defs₀ (F := F) := by
  refine congrArg Defs.onTc ?_
  funext l
  match l with
  | 0 => rfl

set_option backward.isDefEq.respectTransparency.types false in
/-- The two body tables, pipeline included. -/
theorem defs_eq : Cert.Mix.defs (F := F) = Cert.MixIdeal.defs (F := F) :=
  congrArg (Pipeline.defs (Cert.Mix.pcfgs (F := F))) defs₀_eq

end Cert.MixSame

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Ffn.Value
public import proofs.«01_k».proof.Proof.Ffn.Same
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstReferenceIdeal
public import proofs.«01_k».proof.Proof.Gen.FfnFirstReferenceIdeal.Run
public import proofs.«01_k».proof.Proof.FfnFirst.Value
public import proofs.«01_k».proof.Proof.FfnFirst.Same
public import proofs.«01_k».proof.Proof.Gen.Mix
public import proofs.«01_k».proof.Proof.Gen.MixIdeal
public import proofs.«01_k».proof.Proof.Gen.MixReferenceIdeal
public import proofs.«01_k».proof.Proof.Gen.MixReferenceIdeal.Run
public import proofs.«01_k».proof.Proof.Mix.Frame
public import proofs.«01_k».proof.Proof.Mix.Same
public import Idealize.ShloMosaic.Adequacy
public import Idealize.ShloMosaic.Lib.Claim
public import Idealize.ShloMosaic.Init

@[expose] public section

noncomputable section

namespace Cert.Proof

open Idealize.ShloMosaic Idealize.SL.Sem Cert.Ffn

-- the two programs' signatures unfold to the same literals
set_option backward.isDefEq.respectTransparency.types false in
/-- The feed-forward kernel's frame: the idealization's run, which is over any float values. -/
theorem ffn_kernel_frame : Cert.quiescent_Ffn := fun m ρ _ =>
  (congrArg (fun D => θ_run D (onTc (τ := Cert.FfnIdeal.τ) (Cert.FfnIdeal.main (F := Bits))) ⟨m, fun _ => 0, ρ⟩ _)
    (Cert.FfnSame.defs_eq (F := Bits))).mpr (Cert.FfnIdeal.Run.frame (F := Bits) m ρ)

/-- The plain feed-forward layer's frame: it declares no semaphore. -/
theorem ffn_reference_frame : Cert.quiescent_FfnReferenceIdeal := fun m ρ _ =>
  (θ_run Cert.FfnReferenceIdeal.defs _ _).mono
    (fun r h => ⟨fun c => (h c).2, sem_eq_zero_of_no_sems rfl r.2⟩)
    (Cert.FfnReferenceIdeal.Value.run m ρ)

/-- The feed-forward kernel's result is the plain feed-forward layer's, over the extended reals. -/
theorem ffn_value : Cert.algebraic_FfnIdeal_FfnReferenceIdeal := by
  pair_intro
  · run_from Cert.FfnIdeal.Run.run_main m g
  · run_from Cert.FfnReferenceIdeal.Value.run m' g'
    obtain ⟨h0, h1, h2, h3, h4⟩ := hagree c
    exact (Cert.FfnPure.res_eq m' c).trans
      ((by rw [h0, h1, h2, h3, h4]; rfl : _ = Cert.FfnIdeal.Result.Ref m c).trans
        (Cert.FfnIdeal.Result.final m c).symm)

-- the two programs' signatures unfold to the same literals
set_option backward.isDefEq.respectTransparency.types false in
/-- The first layer's feed-forward kernel's frame: the idealization's run, which is over any float values. -/
theorem ffn_first_kernel_frame : Cert.quiescent_FfnFirst := fun m ρ _ =>
  (congrArg (fun D => θ_run D (onTc (τ := Cert.FfnFirstIdeal.τ) (Cert.FfnFirstIdeal.main (F := Bits))) ⟨m, fun _ => 0, ρ⟩ _)
    (Cert.FfnFirstSame.defs_eq (F := Bits))).mpr (Cert.FfnFirstIdeal.Run.frame (F := Bits) m ρ)

/-- The first layer's plain feed-forward's frame: it declares no semaphore. -/
theorem ffn_first_reference_frame : Cert.quiescent_FfnFirstReferenceIdeal := fun m ρ _ =>
  (θ_run Cert.FfnFirstReferenceIdeal.defs _ _).mono
    (fun r h => ⟨fun c => (h c).2, sem_eq_zero_of_no_sems rfl r.2⟩)
    (Cert.FfnFirstReferenceIdeal.Value.run m ρ)

/-- The first layer's feed-forward kernel's result is the plain feed-forward's, over the extended reals. -/
theorem ffn_first_value : Cert.algebraic_FfnFirstIdeal_FfnFirstReferenceIdeal := by
  pair_intro
  · run_from Cert.FfnFirstIdeal.Run.run_main m g
  · run_from Cert.FfnFirstReferenceIdeal.Value.run m' g'
    exact (rfl : _ = Cert.FfnFirstIdeal.Result.Ref m c).trans (Cert.FfnFirstIdeal.Result.final m c).symm

-- as above; the host tables are a hundred operations
set_option maxHeartbeats 0 in
set_option maxRecDepth 100000 in
set_option backward.isDefEq.respectTransparency.types false in
/-- The mixer kernel's frame: the idealization's run, which is over any float values. -/
theorem mix_kernel_frame : Cert.quiescent_Mix := fun m ρ _ =>
  (congrArg (fun D => θ_run D (onTc (τ := Cert.MixIdeal.τ) (Cert.MixIdeal.main (F := Bits))) ⟨m, fun _ => 0, ρ⟩ _)
    (Cert.MixSame.defs_eq (F := Bits))).mpr (Cert.MixIdeal.Run.frame (F := Bits) m ρ)

/-- The plain mixer layer's frame: it declares no semaphore. -/
theorem mix_reference_frame : Cert.quiescent_MixReferenceIdeal := fun m ρ _ =>
  (θ_run Cert.MixReferenceIdeal.defs _ _).mono
    (fun r h => ⟨fun c => (h c).2, sem_eq_zero_of_no_sems rfl r.2⟩)
    (Cert.MixReferenceIdeal.Value.run m ρ)

theorem claim : Cert.Claim := ⟨Cert.Ffn.Gen.facts, Cert.FfnIdeal.Gen.facts, Cert.FfnReferenceIdeal.Gen.facts,
  Cert.Mix.Gen.facts, Cert.MixIdeal.Gen.facts, Cert.MixReferenceIdeal.Gen.facts,
  Cert.FfnFirst.Gen.facts, Cert.FfnFirstIdeal.Gen.facts, Cert.FfnFirstReferenceIdeal.Gen.facts, by
  refine ⟨?_, ?_, ?_, ?_, ?_, ?_, ?_, ?_, ?_, ?_, ?_, ?_, ?_, ?_⟩
  · exact ffn_kernel_frame
  · exact fun m ρ _ => Cert.FfnIdeal.Run.frame m ρ
  · exact ffn_reference_frame
  · exact mix_kernel_frame
  · exact fun m ρ _ => Cert.MixIdeal.Run.frame m ρ
  · exact mix_reference_frame
  · exact ffn_first_kernel_frame
  · exact fun m ρ _ => Cert.FfnFirstIdeal.Run.frame m ρ
  · exact ffn_first_reference_frame
  · trivial
  · exact ffn_value
  · trivial
  · trivial
  · exact ffn_first_value⟩

end Cert.Proof

end
